-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_is_f32 [hPre_gamma_is_f32 : Cert.Pre_gamma_is_f32.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_is_f32.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_is_f32 [hPre_gamma_is_f32 : Cert.Pre_gamma_is_f32.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_is_f32.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gamma_is_f32 [hKernelIdeal : Cert.KernelIdeal.Facts] [hPre_gamma_is_f32 : Cert.Pre_gamma_is_f32.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_is_f32 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gamma_is_f32 [hReferenceIdeal : Cert.ReferenceIdeal.Facts] [hPre_gamma_is_f32 : Cert.Pre_gamma_is_f32.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_is_f32 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_d_out" .f32 0x39CCCCCD#32 ((1 / 2560 : ℝ) : EReal)

def algebraic_KernelIdeal_ReferenceIdeal_pre_gamma_is_f32 [hKernelIdeal : Cert.KernelIdeal.Facts] [hReferenceIdeal : Cert.ReferenceIdeal.Facts] [hPre_gamma_is_f32 : Cert.Pre_gamma_is_f32.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_is_f32 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_gamma_is_f32 : Cert.Pre_gamma_is_f32.Facts),
    quiescent_Kernel (hKernel := hKernel)
    ∧ quiescent_KernelIdeal (hKernelIdeal := hKernelIdeal)
    ∧ quiescent_KernelIdeal_pre_gamma_is_f32 (hKernelIdeal := hKernelIdeal) (hPre_gamma_is_f32 := hPre_gamma_is_f32)
    ∧ quiescent_ReferenceIdeal (hReferenceIdeal := hReferenceIdeal)
    ∧ quiescent_ReferenceIdeal_pre_gamma_is_f32 (hReferenceIdeal := hReferenceIdeal) (hPre_gamma_is_f32 := hPre_gamma_is_f32)
    ∧ preserves_Kernel_KernelIdeal
    ∧ algebraic_KernelIdeal_ReferenceIdeal_pre_gamma_is_f32 (hKernelIdeal := hKernelIdeal) (hReferenceIdeal := hReferenceIdeal) (hPre_gamma_is_f32 := hPre_gamma_is_f32)
-- ==== Pre_gamma_is_f32.lean ====
abbrev S12x1536x4096 : Shape := ⟨3, ![12, 1536, 4096]⟩
abbrev S12x1536x1 : Shape := ⟨3, ![12, 1536, 1]⟩
abbrev S4096x2560 : Shape := ⟨2, ![4096, 2560]⟩
abbrev S2560 : Shape := ⟨1, ![2560]⟩
abbrev S12x1536x2560 : Shape := ⟨3, ![12, 1536, 2560]⟩
abbrev S_ : Shape := ⟨0, ![]⟩

class Facts : Prop where
  bcast_S_S2560 : S_.BroadcastsInDim S2560 (![] : Fin 0 → Fin S2560.rank)
  reducesTo_S2560_S_d0 : S2560.ReducesTo [0] S_
  h_S_ : 0 < S_.numel

variable [Facts]

def fn {F : FTy → Type} [FloatOps F] (main_arg0 : FVec F S12x1536x4096 .fp8e4m3) (main_arg1 : FVec F S12x1536x1 .f32) (main_arg2 : FVec F S4096x2560 .fp8e4m3) (main_arg3 : FVec F S2560 .f32) (main_arg4 : FVec F S12x1536x2560 .bf16) (main_arg5 : FVec F S2560 .f32) : IVec S_ 1 :=
  let main_v0 : FVec F S2560 .f32 := Host.absf main_arg5
  let main_cst : FVec F S_ .f32 := constant S_ .f32 0x7F7FFFFF#32
  let main_v1 : FVec F S2560 .f32 := broadcastInDim S2560 ![] bcast_S_S2560 main_cst
  let main_v2 : IVec S2560 1 := cmpf .ole main_v0 main_v1
  let main_c : IVec S_ 1 := constantI S_ 1 1#1
  let main_v3 : IVec S_ 1 := (fun x v => Host.reduce IntOp.andi x v reducesTo_S2560_S_d0 h_S_) main_v2 main_c
  main_v3
-- ==== Kernel.lean ====
abbrev S12x1536x4096 : Shape := ⟨3, ![12, 1536, 4096]⟩
abbrev S12x1536x1 : Shape := ⟨3, ![12, 1536, 1]⟩
abbrev S4096x2560 : Shape := ⟨2, ![4096, 2560]⟩
abbrev S2560 : Shape := ⟨1, ![2560]⟩
abbrev S12x1536x2560 : Shape := ⟨3, ![12, 1536, 2560]⟩
abbrev S18432x4096 : Shape := ⟨2, ![18432, 4096]⟩
abbrev S144x1x128 : Shape := ⟨3, ![144, 1, 128]⟩
abbrev S1x2560 : Shape := ⟨2, ![1, 2560]⟩
abbrev S18432x2560 : Shape := ⟨2, ![18432, 2560]⟩
abbrev S256x4096 : Shape := ⟨2, ![256, 4096]⟩
abbrev S2x1x128 : Shape := ⟨3, ![2, 1, 128]⟩
abbrev S256x2560 : Shape := ⟨2, ![256, 2560]⟩
abbrev S1x1x128 : Shape := ⟨3, ![1, 1, 128]⟩
abbrev S1x128 : Shape := ⟨2, ![1, 128]⟩
abbrev S128x128 : Shape := ⟨2, ![128, 128]⟩
abbrev S256x128 : Shape := ⟨2, ![256, 128]⟩
abbrev S256x1 : Shape := ⟨2, ![256, 1]⟩
abbrev S4096x256 : Shape := ⟨2, ![4096, 256]⟩
abbrev S256x256 : Shape := ⟨2, ![256, 256]⟩
abbrev S1x256 : Shape := ⟨2, ![1, 256]⟩
abbrev S256 : Shape := ⟨1, ![256]⟩

abbrev nBuf : Space → Nat
  | .hbm => 14
  | .vmem => 15
  | .smem => 0
  | _ => 0

abbrev bufTy : (tb : Table) → Fin (tcTables nBuf tb) → BufTy
  | .hbm, ⟨0, _⟩ => ⟨S12x1536x4096, .fp8e4m3⟩
  | .hbm, ⟨1, _⟩ => ⟨S12x1536x1, .f32⟩
  | .hbm, ⟨2, _⟩ => ⟨S4096x2560, .fp8e4m3⟩
  | .hbm, ⟨3, _⟩ => ⟨S2560, .f32⟩
  | .hbm, ⟨4, _⟩ => ⟨S12x1536x2560, .bf16⟩
  | .hbm, ⟨5, _⟩ => ⟨S2560, .f32⟩
  | .hbm, ⟨6, _⟩ => ⟨S18432x4096, .fp8e4m3⟩
  | .hbm, ⟨7, _⟩ => ⟨S144x1x128, .f32⟩
  | .hbm, ⟨8, _⟩ => ⟨S1x2560, .f32⟩
  | .hbm, ⟨9, _⟩ => ⟨S18432x2560, .bf16⟩
  | .hbm, ⟨10, _⟩ => ⟨S1x2560, .f32⟩
  | .hbm, ⟨11, _⟩ => ⟨S18432x2560, .bf16⟩
  | .hbm, ⟨12, _⟩ => ⟨S18432x2560, .fp8e4m3⟩
  | .hbm, ⟨13, _⟩ => ⟨S144x1x128, .f32⟩
  | .local _ .vmem, ⟨0, _⟩ => ⟨S256x4096, .fp8e4m3⟩
  | .local _ .vmem, ⟨1, _⟩ => ⟨S256x4096, .fp8e4m3⟩
  | .local _ .vmem, ⟨2, _⟩ => ⟨S2x1x128, .f32⟩
  | .local _ .vmem, ⟨3, _⟩ => ⟨S2x1x128, .f32⟩
  | .local _ .vmem, ⟨4, _⟩ => ⟨S4096x2560, .fp8e4m3⟩
  | .local _ .vmem, ⟨5, _⟩ => ⟨S1x2560, .f32⟩
  | .local _ .vmem, ⟨6, _⟩ => ⟨S256x2560, .bf16⟩
  | .local _ .vmem, ⟨7, _⟩ => ⟨S256x2560, .bf16⟩
  | .local _ .vmem, ⟨8, _⟩ => ⟨S1x2560, .f32⟩
  | .local _ .vmem, ⟨9, _⟩ => ⟨S256x2560, .bf16⟩
  | .local _ .vmem, ⟨10, _⟩ => ⟨S256x2560, .bf16⟩
  | .local _ .vmem, ⟨11, _⟩ => ⟨S256x2560, .fp8e4m3⟩
  | .local _ .vmem, ⟨12, _⟩ => ⟨S256x2560, .fp8e4m3⟩
  | .local _ .vmem, ⟨13, _⟩ => ⟨S2x1x128, .f32⟩
  | .local _ .vmem, ⟨14, _⟩ => ⟨S2x1x128, .f32⟩
  | _, _ => ⟨S12x1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2560 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_d_out" => some ((1 / 2560 : ℝ) : EReal)
  | _ => none
-- ==== ReferenceIdeal.lean ====
abbrev S12x1536x4096 : Shape := ⟨3, ![12, 1536, 4096]⟩
abbrev S12x1536x1 : Shape := ⟨3, ![12, 1536, 1]⟩
abbrev S4096x2560 : Shape := ⟨2, ![4096, 2560]⟩
abbrev S2560 : Shape := ⟨1, ![2560]⟩
abbrev S12x1536x2560 : Shape := ⟨3, ![12, 1536, 2560]⟩
abbrev S18432x4096 : Shape := ⟨2, ![18432, 4096]⟩
abbrev S18432x1 : Shape := ⟨2, ![18432, 1]⟩
abbrev S1x2560 : Shape := ⟨2, ![1, 2560]⟩
abbrev S18432x2560 : Shape := ⟨2, ![18432, 2560]⟩
abbrev S144x1x128 : Shape := ⟨3, ![144, 1, 128]⟩
abbrev S18432 : Shape := ⟨1, ![18432]⟩

abbrev nBuf : Space → Nat
  | .hbm => 14
  | .vmem => 9
  | .smem => 0
  | _ => 0

abbrev bufTy : (tb : Table) → Fin (tcTables nBuf tb) → BufTy
  | .hbm, ⟨0, _⟩ => ⟨S12x1536x4096, .fp8e4m3⟩
  | .hbm, ⟨1, _⟩ => ⟨S12x1536x1, .f32⟩
  | .hbm, ⟨2, _⟩ => ⟨S4096x2560, .fp8e4m3⟩
  | .hbm, ⟨3, _⟩ => ⟨S2560, .f32⟩
  | .hbm, ⟨4, _⟩ => ⟨S12x1536x2560, .bf16⟩
  | .hbm, ⟨5, _⟩ => ⟨S2560, .f32⟩
  | .hbm, ⟨6, _⟩ => ⟨S18432x4096, .fp8e4m3⟩
  | .hbm, ⟨7, _⟩ => ⟨S18432x1, .f32⟩
  | .hbm, ⟨8, _⟩ => ⟨S1x2560, .f32⟩
  | .hbm, ⟨9, _⟩ => ⟨S18432x2560, .bf16⟩
  | .hbm, ⟨10, _⟩ => ⟨S1x2560, .f32⟩
  | .hbm, ⟨11, _⟩ => ⟨S18432x2560, .bf16⟩
  | .hbm, ⟨12, _⟩ => ⟨S18432x2560, .fp8e4m3⟩
  | .hbm, ⟨13, _⟩ => ⟨S144x1x128, .f32⟩
  | .local _ .vmem, ⟨0, _⟩ => ⟨S18432x4096, .fp8e4m3⟩
  | .local _ .vmem, ⟨1, _⟩ => ⟨S18432x1, .f32⟩
  | .local _ .vmem, ⟨2, _⟩ => ⟨S4096x2560, .fp8e4m3⟩
  | .local _ .vmem, ⟨3, _⟩ => ⟨S1x2560, .f32⟩
  | .local _ .vmem, ⟨4, _⟩ => ⟨S18432x2560, .bf16⟩
  | .local _ .vmem, ⟨5, _⟩ => ⟨S1x2560, .f32⟩
  | .local _ .vmem, ⟨6, _⟩ => ⟨S18432x2560, .bf16⟩
  | .local _ .vmem, ⟨7, _⟩ => ⟨S18432x2560, .fp8e4m3⟩
  | .local _ .vmem, ⟨8, _⟩ => ⟨S144x1x128, .f32⟩
  | _, _ => ⟨S12x1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S18432x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18432x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18432x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S18432x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S144x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Hidden.lean ====
module

public import proofs.«01_k».proof.Proof.Gen.KernelIdeal.Value
public import Idealize.ShloMosaic.Lib.Pipeline.ValueKit
public import Idealize.ShloMosaic.Lib.Pointwise

@[expose] public section
/-! The hidden state one grid point writes, and how the later passes of the kernel read it back. -/

set_option maxRecDepth 16384
noncomputable section
namespace Cert.KernelIdeal.Body
open Cert.KernelIdeal Cert.KernelIdeal.Gen Idealize.ShloMosaic Idealize.ShloMosaic.TcCoe Idealize.SL.Sem

variable (c : Dev nD) (arg1 : Memref sig .tc .vmem S256x4096 .fp8e4m3) (harg1 : arg1.IsWhole)
  (arg2 : Memref sig .tc .vmem S2x1x128 .f32) (harg2 : arg2.IsWhole) (arg3 : Memref sig .tc .vmem S4096x2560 .fp8e4m3) (harg3 : arg3.IsWhole)
  (arg4 : Memref sig .tc .vmem S1x2560 .f32) (harg4 : arg4.IsWhole) (arg5 : Memref sig .tc .vmem S256x2560 .bf16) (harg5 : arg5.IsWhole)
  (arg6 : Memref sig .tc .vmem S1x2560 .f32) (harg6 : arg6.IsWhole) (arg7 : Memref sig .tc .vmem S256x2560 .bf16) (harg7 : arg7.IsWhole)
  (arg8 : Memref sig .tc .vmem S256x2560 .fp8e4m3) (harg8 : arg8.IsWhole) (arg9 : Memref sig .tc .vmem S2x1x128 .f32) (harg9 : arg9.IsWhole)
  (b0 : Vec Ideal S256x4096 .fp8e4m3) (b1 : Vec Ideal S2x1x128 .f32) (b2 : Vec Ideal S4096x2560 .fp8e4m3) (b3 : Vec Ideal S1x2560 .f32)
  (b4 : Vec Ideal S256x2560 .bf16) (b5 : Vec Ideal S1x2560 .f32)

/-- The hidden state of a block. -/
def hB : S256x2560.Idx → EReal := fun y =>
  b4 y + (∑ k : Fin 4096, b0 (ix2 (y 0) k) * b2 (ix2 k (y 1)))
    * b1 (ix3 ⟨(y 0 : Nat) / 128, by have := (y 0).isLt; change _ < 256 at this; omega⟩ 0 ⟨(y 0 : Nat) % 128, Nat.mod_lt _ (by omega)⟩)
    * b3 (ix2 0 (y 1))

/-- The hidden state at column `o + l`, with the row's scale picked from the two rows of scales. -/
theorem hB_eq (y : S256x2560.Idx) (r l : Fin 256) (o : Nat) (h0 : (y 0 : Nat) = r) (h1 : (y 1 : Nat) = o + l) (ho : o + l < 2560) :
    b4 (ix2 r ⟨o + l, ho⟩) + ((∑ k : Fin 4096, b0 (ix2 r k) * b2 (ix2 k ⟨o + l, ho⟩)) *
      if h : (r : Nat) < 128 then b1 (ix3 0 0 ⟨r, h⟩) else b1 (ix3 1 0 ⟨r - 128, by omega⟩)) * b3 (ix2 0 ⟨o + l, ho⟩)
      = hB b0 b1 b2 b3 b4 y := by
  have e0 : y 0 = r := Fin.ext h0
  have e1 : y 1 = (⟨o + l, ho⟩ : Fin 2560) := Fin.ext h1
  have ey : y = ix2 r ⟨o + l, ho⟩ := by
    funext i; match i with
    | 0 => exact e0
    | 1 => exact e1
  subst ey
  unfold hB
  congr 2
  split_ifs with h
  · congr 2
    idx_ext
  · congr 2
    idx_ext

/-- The same for the first tile. -/
theorem hB_eq0 (y : S256x2560.Idx) (r l : Fin 256) (h0 : (y 0 : Nat) = r) (h1 : (y 1 : Nat) = l) (ho : (l : Nat) < 2560) :
    b4 (ix2 r ⟨l, ho⟩) + ((∑ k : Fin 4096, b0 (ix2 r k) * b2 (ix2 k ⟨l, ho⟩)) *
      if h : (r : Nat) < 128 then b1 (ix3 0 0 ⟨r, h⟩) else b1 (ix3 1 0 ⟨r - 128, by omega⟩)) * b3 (ix2 0 ⟨l, ho⟩)
      = hB b0 b1 b2 b3 b4 y := by
  have := hB_eq b0 b1 b2 b3 b4 y r l 0 h0 (by omega) (by omega)
  simpa only [Nat.zero_add] using this

/-- The ten stores of the first pass leave the hidden state. -/
theorem canon_h : View.canon (kernelRun0_A.sl.H6_10 c arg1 harg1 arg2 harg2 arg3 harg3 arg4 harg4 arg5 harg5 b0 b1 b2 b3 b4) = hB b0 b1 b2 b3 b4 := by
  funext y
  frame_open
  canon_tiles x h
  all_goals
    idx_vars x
    simp only [View.readAt_eq_ld, Memref.IsWhole.read_unread]
    pointwise
    simp only [harg2.read_unread]
    first
      | exact hB_eq b0 b1 b2 b3 b4 y _ _ _ h0 h1 _
      | exact hB_eq0 b0 b1 b2 b3 b4 y _ _ h0 h1 (by omega)

/-- The 256 columns of a block from column `o` on. -/
def tile (X : S256x2560.Idx → EReal) (o : Nat) (ho : o ≤ 2304) : S256x256.Idx → EReal := fun y =>
  X (ix2 (y 0) ⟨o + (y 1 : Nat), by have := (y 1).isLt; change _ < 256 at this; omega⟩)

/-- Each of the ten tiles the kernel keeps is the hidden state's tile. -/
theorem tiles :
    kernelRun0_A.sl.v27 c arg1 harg1 arg2 harg2 arg3 harg3 arg4 harg4 arg5 harg5 b0 b1 b2 b3 b4 = tile (hB b0 b1 b2 b3 b4) 0 (by omega)
    ∧ kernelRun0_A.sl.v49 c arg1 harg1 arg2 harg2 arg3 harg3 arg4 harg4 arg5 harg5 b0 b1 b2 b3 b4 = tile (hB b0 b1 b2 b3 b4) 256 (by omega)
    ∧ kernelRun0_A.sl.v71 c arg1 harg1 arg2 harg2 arg3 harg3 arg4 harg4 arg5 harg5 b0 b1 b2 b3 b4 = tile (hB b0 b1 b2 b3 b4) 512 (by omega)
    ∧ kernelRun0_A.sl.v93 c arg1 harg1 arg2 harg2 arg3 harg3 arg4 harg4 arg5 harg5 b0 b1 b2 b3 b4 = tile (hB b0 b1 b2 b3 b4) 768 (by omega)
    ∧ kernelRun0_A.sl.v115 c arg1 harg1 arg2 harg2 arg3 harg3 arg4 harg4 arg5 harg5 b0 b1 b2 b3 b4 = tile (hB b0 b1 b2 b3 b4) 1024 (by omega)
    ∧ kernelRun0_A.sl.v137 c arg1 harg1 arg2 harg2 arg3 harg3 arg4 harg4 arg5 harg5 b0 b1 b2 b3 b4 = tile (hB b0 b1 b2 b3 b4) 1280 (by omega)
    ∧ kernelRun0_A.sl.v159 c arg1 harg1 arg2 harg2 arg3 harg3 arg4 harg4 arg5 harg5 b0 b1 b2 b3 b4 = tile (hB b0 b1 b2 b3 b4) 1536 (by omega)
    ∧ kernelRun0_A.sl.v181 c arg1 harg1 arg2 harg2 arg3 harg3 arg4 harg4 arg5 harg5 b0 b1 b2 b3 b4 = tile (hB b0 b1 b2 b3 b4) 1792 (by omega)
    ∧ kernelRun0_A.sl.v203 c arg1 harg1 arg2 harg2 arg3 harg3 arg4 harg4 arg5 harg5 b0 b1 b2 b3 b4 = tile (hB b0 b1 b2 b3 b4) 2048 (by omega)
    ∧ kernelRun0_A.sl.v225 c arg1 harg1 arg2 harg2 arg3 harg3 arg4 harg4 arg5 harg5 b0 b1 b2 b3 b4 = tile (hB b0 b1 b2 b3 b4) 2304 (by omega) := by
  refine ⟨?_, ?_, ?_, ?_, ?_, ?_, ?_, ?_, ?_, ?_⟩
  all_goals
    funext y
    frame_open
    idx_vars y
    simp only [View.readAt_eq_ld, Memref.IsWhole.read_unread]
    pointwise
    simp only [harg2.read_unread]
    unfold tile
    first
      | exact hB_eq b0 b1 b2 b3 b4 (ix2 y0 ⟨_, _⟩) y0 y1 _ rfl rfl _
      | exact hB_eq0 b0 b1 b2 b3 b4 (ix2 y0 ⟨_, _⟩) y0 y1 rfl (Nat.zero_add (y1 : Nat)) (by omega)

/-- A read of the hidden state's scratch after the ten stores is a tile of the hidden state. -/
theorem read_h (o : Nat) (ho : o ≤ 2304) (inb) :
    arg7.view.readCov (kernelRun0_A.sl.H6_10 c arg1 harg1 arg2 harg2 arg3 harg3 arg4 harg4 arg5 harg5 b0 b1 b2 b3 b4)
      (Rect.unit (s := S256x2560) ![0, o] S256x256.size inb).toLoadRect = tile (hB b0 b1 b2 b3 b4) o ho := by
  rw [View.readCov_eq_canon', canon_h]
  funext y
  refine congrArg (hB b0 b1 b2 b3 b4) ?_
  funext i
  refine Fin.ext ?_
  match i with
  | 0 => exact (Nat.zero_add _).trans (Nat.one_mul _)
  | 1 => exact congrArg (o + ·) (Nat.one_mul _)
end Cert.KernelIdeal.Body
-- ==== Proof.Stages.lean ====
module

public import proofs.«01_k».proof.Proof.Hidden

@[expose] public section

/-! The stages of one grid point over the hidden state `X` of its block: the row factor, the largest magnitude of
each row and its exponent, and the codes. Each is the kernel's own chain of operations, cut in small functions. -/

set_option maxRecDepth 16384
noncomputable section
namespace Cert.KernelIdeal.Body
open Cert.KernelIdeal Cert.KernelIdeal.Gen Idealize.ShloMosaic Idealize.ShloMosaic.TcCoe Idealize.SL.Sem

/-- The squares of a tile, its two halves added. -/
def sqT (T : FVec Ideal S256x256 .bf16) : FVec Ideal S256x128 .f32 :=
  addf (extractStridedSlice S256x128 ![0, 0] (mulf (extf .f32 T bitsLt_bf16_f32) (extf .f32 T bitsLt_bf16_f32)) slices_S256x256_o0_0_S256x128)
    (extractStridedSlice S256x128 ![0, 128] (mulf (extf .f32 T bitsLt_bf16_f32) (extf .f32 T bitsLt_bf16_f32)) slices_S256x256_o0_128_S256x128)

/-- A tile times the row factor and the weights of its columns. -/
def nrm (T : FVec Ideal S256x256 .bf16) (r : FVec Ideal S256x1 .f32) (g : FVec Ideal S1x256 .f32) : FVec Ideal S256x256 .f32 :=
  mulf (mulf (extf .f32 (shapeCast S256x256 T shapeCasts_S256x256_S256x256) bitsLt_bf16_f32) (broadcastTo S256x256 r broadcasts_S256x1_S256x256))
    (broadcastTo S256x256 (shapeCast S1x256 g shapeCasts_S1x256_S1x256) broadcasts_S1x256_S256x256)

/-- The magnitudes of a normalised tile, the larger of its two halves. -/
def absT (T : FVec Ideal S256x256 .bf16) (r : FVec Ideal S256x1 .f32) (g : FVec Ideal S1x256 .f32) : FVec Ideal S256x128 .f32 :=
  maximumf (extractStridedSlice S256x128 ![0, 0] (absf (nrm T r g)) slices_S256x256_o0_0_S256x128)
    (extractStridedSlice S256x128 ![0, 128] (absf (nrm T r g)) slices_S256x256_o0_128_S256x128)

/-- The exponent word of each row, from the magnitudes folded to one lane tile. -/
def expV (M : FVec Ideal S256x128 .f32) : IVec S256x1 32 :=
  let q : FVec Ideal S256x1 .f32 := absf (mulf (shapeCast S256x1 (multiReduction .maximumf [1] S256 M 0xFF800000#32 reduces_S256x128_S256 (.inl rfl) rfl) shapeCasts_S256_S256x1) (broadcast S256x1 (Scalar.ofBits .f32 0x3B124925#32)))
  let p : FVec Ideal S1x256 .f32 := bitcastToFloat .f32 (shli (iota .tc S1x256 32 [1] iota_S1x256_d1_w32) (broadcast S1x256 23#32))
  let n : IVec S256x1 32 := shapeCast S256x1 (multiReductionI .add [1] S256 (select (cmpf .oge (broadcastTo S256x256 q broadcasts_S256x1_S256x256) (broadcastTo S256x256 p broadcasts_S1x256_S256x256)) (broadcast S256x256 1#32) (broadcast S256x256 0#32)) 0#32 reduces_S256x256_S256 rfl) shapeCasts_S256_S256x1
  let z : IVec S256x1 32 := broadcast S256x1 0#32
  let b : IVec S256x1 32 := maxsi (subi n (broadcast S256x1 1#32)) z
  select (ori (cmpi .eq b z) (cmpi .eq b (broadcast S256x1 255#32))) z (subi b (broadcast S256x1 126#32))

/-- The codes of a tile: normalised, times the inverse scale, clipped and rounded. -/
def codeT (T : FVec Ideal S256x256 .bf16) (r : FVec Ideal S256x1 .f32) (g : FVec Ideal S1x256 .f32) (e : IVec S256x1 32) : FVec Ideal S256x256 .fp8e4m3 :=
  truncf .fp8e4m3 (minimumf (broadcast S256x256 (Scalar.ofBits .f32 0x43E00000#32)) (maximumf (broadcast S256x256 (Scalar.ofBits .f32 0xC3E00000#32))
    (mulf (nrm T r g) (broadcastTo S256x256 (k0_pay38 (F := Ideal) (subi (broadcast S256x1 0#32) e) (broadcast S256x1 127#32)) broadcasts_S256x1_S256x256)))) bitsLt_fp8e4m3_f32

/-- The columns of the weights a tile meets. -/
def gtile (g : S1x2560.Idx → EReal) (o : Nat) (ho : o ≤ 2304) : S1x256.Idx → EReal := fun y =>
  g (ix2 (y 0) ⟨o + (y 1 : Nat), by have := (y 1).isLt; change _ < 256 at this; omega⟩)

/-- The factor of each row of a block with hidden state `X`. -/
def rowR (X : S256x2560.Idx → EReal) : FVec Ideal S256x1 .f32 :=
  k0_pay27 (F := Ideal) (List.foldl (fun a T => addf a (sqT T)) (broadcast S256x128 (Scalar.ofBits .f32 0x00000000#32))
    [tile X 0 (by omega), tile X 256 (by omega), tile X 512 (by omega), tile X 768 (by omega), tile X 1024 (by omega), tile X 1280 (by omega), tile X 1536 (by omega), tile X 1792 (by omega), tile X 2048 (by omega)]) (sqT (tile X 2304 (by omega)))

/-- The magnitudes of a block with hidden state `X` and weights `g`, folded to one lane tile. -/
def rowM (X : S256x2560.Idx → EReal) (g : S1x2560.Idx → EReal) : FVec Ideal S256x128 .f32 :=
  List.foldl (fun a (T : FVec Ideal S256x256 .bf16 × FVec Ideal S1x256 .f32) => maximumf a (absT T.1 (rowR X) T.2)) (broadcast S256x128 (Scalar.ofBits .f32 0x00000000#32))
    [(tile X 0 (by omega), gtile g 0 (by omega)),
     (tile X 256 (by omega), gtile g 256 (by omega)),
     (tile X 512 (by omega), gtile g 512 (by omega)),
     (tile X 768 (by omega), gtile g 768 (by omega)),
     (tile X 1024 (by omega), gtile g 1024 (by omega)),
     (tile X 1280 (by omega), gtile g 1280 (by omega)),
     (tile X 1536 (by omega), gtile g 1536 (by omega)),
     (tile X 1792 (by omega), gtile g 1792 (by omega)),
     (tile X 2048 (by omega), gtile g 2048 (by omega)),
     (tile X 2304 (by omega), gtile g 2304 (by omega))]

variable (c : Dev nD) (arg1 : Memref sig .tc .vmem S256x4096 .fp8e4m3) (harg1 : arg1.IsWhole)
  (arg2 : Memref sig .tc .vmem S2x1x128 .f32) (harg2 : arg2.IsWhole) (arg3 : Memref sig .tc .vmem S4096x2560 .fp8e4m3) (harg3 : arg3.IsWhole)
  (arg4 : Memref sig .tc .vmem S1x2560 .f32) (harg4 : arg4.IsWhole) (arg5 : Memref sig .tc .vmem S256x2560 .bf16) (harg5 : arg5.IsWhole)
  (arg6 : Memref sig .tc .vmem S1x2560 .f32) (harg6 : arg6.IsWhole) (arg7 : Memref sig .tc .vmem S256x2560 .bf16) (harg7 : arg7.IsWhole)
  (arg8 : Memref sig .tc .vmem S256x2560 .fp8e4m3) (harg8 : arg8.IsWhole) (arg9 : Memref sig .tc .vmem S2x1x128 .f32) (harg9 : arg9.IsWhole)
  (b0 : Vec Ideal S256x4096 .fp8e4m3) (b1 : Vec Ideal S2x1x128 .f32) (b2 : Vec Ideal S4096x2560 .fp8e4m3) (b3 : Vec Ideal S1x2560 .f32)
  (b4 : Vec Ideal S256x2560 .bf16) (b5 : Vec Ideal S1x2560 .f32)

/-- The kernel's row factor is the stage's. -/
theorem r1_eq : kernelRun0_A.sl.r_1 c arg1 harg1 arg2 harg2 arg3 harg3 arg4 harg4 arg5 harg5 b0 b1 b2 b3 b4 = rowR (hB b0 b1 b2 b3 b4) := by
  have h : kernelRun0_A.sl.r_1 c arg1 harg1 arg2 harg2 arg3 harg3 arg4 harg4 arg5 harg5 b0 b1 b2 b3 b4 =
      k0_pay27 (F := Ideal) (List.foldl (fun a T => addf a (sqT T)) (broadcast S256x128 (Scalar.ofBits .f32 0x00000000#32))
    [kernelRun0_A.sl.v27 c arg1 harg1 arg2 harg2 arg3 harg3 arg4 harg4 arg5 harg5 b0 b1 b2 b3 b4,
      kernelRun0_A.sl.v49 c arg1 harg1 arg2 harg2 arg3 harg3 arg4 harg4 arg5 harg5 b0 b1 b2 b3 b4,
      kernelRun0_A.sl.v71 c arg1 harg1 arg2 harg2 arg3 harg3 arg4 harg4 arg5 harg5 b0 b1 b2 b3 b4,
      kernelRun0_A.sl.v93 c arg1 harg1 arg2 harg2 arg3 harg3 arg4 harg4 arg5 harg5 b0 b1 b2 b3 b4,
      kernelRun0_A.sl.v115 c arg1 harg1 arg2 harg2 arg3 harg3 arg4 harg4 arg5 harg5 b0 b1 b2 b3 b4,
      kernelRun0_A.sl.v137 c arg1 harg1 arg2 harg2 arg3 harg3 arg4 harg4 arg5 harg5 b0 b1 b2 b3 b4,
      kernelRun0_A.sl.v159 c arg1 harg1 arg2 harg2 arg3 harg3 arg4 harg4 arg5 harg5 b0 b1 b2 b3 b4,
      kernelRun0_A.sl.v181 c arg1 harg1 arg2 harg2 arg3 harg3 arg4 harg4 arg5 harg5 b0 b1 b2 b3 b4,
      kernelRun0_A.sl.v203 c arg1 harg1 arg2 harg2 arg3 harg3 arg4 harg4 arg5 harg5 b0 b1 b2 b3 b4]) (sqT (kernelRun0_A.sl.v225 c arg1 harg1 arg2 harg2 arg3 harg3 arg4 harg4 arg5 harg5 b0 b1 b2 b3 b4)) := rfl
  obtain ⟨t0, t1, t2, t3, t4, t5, t6, t7, t8, t9⟩ := tiles c arg1 harg1 arg2 harg2 arg3 harg3 arg4 harg4 arg5 harg5 b0 b1 b2 b3 b4
  rw [h, t0, t1, t2, t3, t4, t5, t6, t7, t8, t9]
  rfl

/-- A read of the weights' block is the tile of the weights. -/
theorem read_g (o : Nat) (ho : o ≤ 2304) (inb) :
    arg6.view.readAt (Elt Ideal) (Rect.unit (s := S1x2560) ![0, o] S1x256.size inb).toLoadRect (harg6.unread b5) = gtile b5 o ho := by
  rw [View.readAt_eq_ld, Memref.IsWhole.read_unread]
  funext y
  refine congrArg b5 ?_
  funext i
  refine Fin.ext ?_
  match i with
  | 0 => exact (Nat.zero_add _).trans (Nat.one_mul _)
  | 1 => exact congrArg (o + ·) (Nat.one_mul _)

/-- The kernel's exponent words are the stage's. -/
theorem v410_eq : kernelRun0_A.sl.v410 c arg1 harg1 arg2 harg2 arg3 harg3 arg4 harg4 arg5 harg5 arg6 harg6 arg7 b0 b1 b2 b3 b4 b5 = expV (rowM (hB b0 b1 b2 b3 b4) b5) := by
  have h : kernelRun0_A.sl.v410 c arg1 harg1 arg2 harg2 arg3 harg3 arg4 harg4 arg5 harg5 arg6 harg6 arg7 b0 b1 b2 b3 b4 b5 = expV (List.foldl (fun a (T : FVec Ideal S256x256 .bf16 × FVec Ideal S1x256 .f32) => maximumf a (absT T.1 (kernelRun0_A.sl.r_1 c arg1 harg1 arg2 harg2 arg3 harg3 arg4 harg4 arg5 harg5 b0 b1 b2 b3 b4) T.2)) (broadcast S256x128 (Scalar.ofBits .f32 0x00000000#32))
    [((arg7.view.readCov (kernelRun0_A.sl.H6_10 c arg1 harg1 arg2 harg2 arg3 harg3 arg4 harg4 arg5 harg5 b0 b1 b2 b3 b4) (Rect.unit (s := S256x2560) ![0, 0] S256x256.size Gen.inb_S256x2560_S256x256_0_0).toLoadRect),
       (arg6.view.readAt (Elt Ideal) (Rect.unit (s := S1x2560) ![0, 0] S1x256.size Gen.inb_S1x2560_S1x256_0_0).toLoadRect (harg6.unread b5))),
     ((arg7.view.readCov (kernelRun0_A.sl.H6_10 c arg1 harg1 arg2 harg2 arg3 harg3 arg4 harg4 arg5 harg5 b0 b1 b2 b3 b4) (Rect.unit (s := S256x2560) ![0, 256] S256x256.size Gen.inb_S256x2560_S256x256_0_256).toLoadRect),
       (arg6.view.readAt (Elt Ideal) (Rect.unit (s := S1x2560) ![0, 256] S1x256.size Gen.inb_S1x2560_S1x256_0_256).toLoadRect (harg6.unread b5))),
     ((arg7.view.readCov (kernelRun0_A.sl.H6_10 c arg1 harg1 arg2 harg2 arg3 harg3 arg4 harg4 arg5 harg5 b0 b1 b2 b3 b4) (Rect.unit (s := S256x2560) ![0, 512] S256x256.size Gen.inb_S256x2560_S256x256_0_512).toLoadRect),
       (arg6.view.readAt (Elt Ideal) (Rect.unit (s := S1x2560) ![0, 512] S1x256.size Gen.inb_S1x2560_S1x256_0_512).toLoadRect (harg6.unread b5))),
     ((arg7.view.readCov (kernelRun0_A.sl.H6_10 c arg1 harg1 arg2 harg2 arg3 harg3 arg4 harg4 arg5 harg5 b0 b1 b2 b3 b4) (Rect.unit (s := S256x2560) ![0, 768] S256x256.size Gen.inb_S256x2560_S256x256_0_768).toLoadRect),
       (arg6.view.readAt (Elt Ideal) (Rect.unit (s := S1x2560) ![0, 768] S1x256.size Gen.inb_S1x2560_S1x256_0_768).toLoadRect (harg6.unread b5))),
     ((arg7.view.readCov (kernelRun0_A.sl.H6_10 c arg1 harg1 arg2 harg2 arg3 harg3 arg4 harg4 arg5 harg5 b0 b1 b2 b3 b4) (Rect.unit (s := S256x2560) ![0, 1024] S256x256.size Gen.inb_S256x2560_S256x256_0_1024).toLoadRect),
       (arg6.view.readAt (Elt Ideal) (Rect.unit (s := S1x2560) ![0, 1024] S1x256.size Gen.inb_S1x2560_S1x256_0_1024).toLoadRect (harg6.unread b5))),
     ((arg7.view.readCov (kernelRun0_A.sl.H6_10 c arg1 harg1 arg2 harg2 arg3 harg3 arg4 harg4 arg5 harg5 b0 b1 b2 b3 b4) (Rect.unit (s := S256x2560) ![0, 1280] S256x256.size Gen.inb_S256x2560_S256x256_0_1280).toLoadRect),
       (arg6.view.readAt (Elt Ideal) (Rect.unit (s := S1x2560) ![0, 1280] S1x256.size Gen.inb_S1x2560_S1x256_0_1280).toLoadRect (harg6.unread b5))),
     ((arg7.view.readCov (kernelRun0_A.sl.H6_10 c arg1 harg1 arg2 harg2 arg3 harg3 arg4 harg4 arg5 harg5 b0 b1 b2 b3 b4) (Rect.unit (s := S256x2560) ![0, 1536] S256x256.size Gen.inb_S256x2560_S256x256_0_1536).toLoadRect),
       (arg6.view.readAt (Elt Ideal) (Rect.unit (s := S1x2560) ![0, 1536] S1x256.size Gen.inb_S1x2560_S1x256_0_1536).toLoadRect (harg6.unread b5))),
     ((arg7.view.readCov (kernelRun0_A.sl.H6_10 c arg1 harg1 arg2 harg2 arg3 harg3 arg4 harg4 arg5 harg5 b0 b1 b2 b3 b4) (Rect.unit (s := S256x2560) ![0, 1792] S256x256.size Gen.inb_S256x2560_S256x256_0_1792).toLoadRect),
       (arg6.view.readAt (Elt Ideal) (Rect.unit (s := S1x2560) ![0, 1792] S1x256.size Gen.inb_S1x2560_S1x256_0_1792).toLoadRect (harg6.unread b5))),
     ((arg7.view.readCov (kernelRun0_A.sl.H6_10 c arg1 harg1 arg2 harg2 arg3 harg3 arg4 harg4 arg5 harg5 b0 b1 b2 b3 b4) (Rect.unit (s := S256x2560) ![0, 2048] S256x256.size Gen.inb_S256x2560_S256x256_0_2048).toLoadRect),
       (arg6.view.readAt (Elt Ideal) (Rect.unit (s := S1x2560) ![0, 2048] S1x256.size Gen.inb_S1x2560_S1x256_0_2048).toLoadRect (harg6.unread b5))),
     ((arg7.view.readCov (kernelRun0_A.sl.H6_10 c arg1 harg1 arg2 harg2 arg3 harg3 arg4 harg4 arg5 harg5 b0 b1 b2 b3 b4) (Rect.unit (s := S256x2560) ![0, 2304] S256x256.size Gen.inb_S256x2560_S256x256_0_2304).toLoadRect),
       (arg6.view.readAt (Elt Ideal) (Rect.unit (s := S1x2560) ![0, 2304] S1x256.size Gen.inb_S1x2560_S1x256_0_2304).toLoadRect (harg6.unread b5)))]) := rfl
  rw [h, r1_eq]
  rw [read_h (o := 0) (ho := by omega), read_g (o := 0) (ho := by omega), read_h (o := 256) (ho := by omega), read_g (o := 256) (ho := by omega), read_h (o := 512) (ho := by omega), read_g (o := 512) (ho := by omega), read_h (o := 768) (ho := by omega), read_g (o := 768) (ho := by omega), read_h (o := 1024) (ho := by omega), read_g (o := 1024) (ho := by omega), read_h (o := 1280) (ho := by omega), read_g (o := 1280) (ho := by omega), read_h (o := 1536) (ho := by omega), read_g (o := 1536) (ho := by omega), read_h (o := 1792) (ho := by omega), read_g (o := 1792) (ho := by omega), read_h (o := 2048) (ho := by omega), read_g (o := 2048) (ho := by omega), read_h (o := 2304) (ho := by omega), read_g (o := 2304) (ho := by omega)]
  rfl
end Cert.KernelIdeal.Body
-- ==== Proof.Outputs.lean ====
module

public import proofs.«01_k».proof.Proof.Stages

@[expose] public section

/-! What one grid point leaves in its three output blocks, from the blocks it reads. -/

set_option maxRecDepth 16384
noncomputable section
namespace Cert.KernelIdeal.Body
open Cert.KernelIdeal Cert.KernelIdeal.Gen Idealize.ShloMosaic Idealize.ShloMosaic.TcCoe Idealize.SL.Sem

variable (c : Dev nD) (i : grid0.Coords) (arg1 : Memref sig .tc .vmem S256x4096 .fp8e4m3) (harg1 : arg1.IsWhole)
  (arg2 : Memref sig .tc .vmem S2x1x128 .f32) (harg2 : arg2.IsWhole) (arg3 : Memref sig .tc .vmem S4096x2560 .fp8e4m3) (harg3 : arg3.IsWhole)
  (arg4 : Memref sig .tc .vmem S1x2560 .f32) (harg4 : arg4.IsWhole) (arg5 : Memref sig .tc .vmem S256x2560 .bf16) (harg5 : arg5.IsWhole)
  (arg6 : Memref sig .tc .vmem S1x2560 .f32) (harg6 : arg6.IsWhole) (arg7 : Memref sig .tc .vmem S256x2560 .bf16) (harg7 : arg7.IsWhole)
  (arg8 : Memref sig .tc .vmem S256x2560 .fp8e4m3) (harg8 : arg8.IsWhole) (arg9 : Memref sig .tc .vmem S2x1x128 .f32) (harg9 : arg9.IsWhole)
  (b0 : Vec Ideal S256x4096 .fp8e4m3) (b1 : Vec Ideal S2x1x128 .f32) (b2 : Vec Ideal S4096x2560 .fp8e4m3) (b3 : Vec Ideal S1x2560 .f32)
  (b4 : Vec Ideal S256x2560 .bf16) (b5 : Vec Ideal S1x2560 .f32)

/-- Output 6 is the hidden state. -/
theorem out6_eq : out0_A_6 c i arg1 harg1 arg2 harg2 arg3 harg3 arg4 harg4 arg5 harg5 arg6 harg6 arg7 harg7 arg8 harg8 arg9 harg9 b0 b1 b2 b3 b4 b5 = hB b0 b1 b2 b3 b4 := by
  unfold out0_A_6
  rw [View.read_writes_junk_eq_canon]
  exact canon_h c arg1 harg1 arg2 harg2 arg3 harg3 arg4 harg4 arg5 harg5 b0 b1 b2 b3 b4

/-- The codes of a block with hidden state `X` and weights `g`. -/
def codeB (X : S256x2560.Idx → EReal) (g : S1x2560.Idx → EReal) : S256x2560.Idx → EReal := fun y =>
  min (Ideal.ofBits .f32 0x43E00000#32) (max (Ideal.ofBits .f32 0xC3E00000#32)
    (X y * rowR X (ix2 (y 0) 0) * g (ix2 0 (y 1)) *
      Ideal.ofBits .f32 ((0#32 - expV (rowM X g) (ix2 (y 0) 0) + 127#32) <<< 23)))

/-- A tile of codes is the codes' tile. -/
theorem codeT_at (X : S256x2560.Idx → EReal) (g : S1x2560.Idx → EReal) (o : Nat) (ho : o ≤ 2304) (x : S256x256.Idx) (y : S256x2560.Idx)
    (h0 : (y 0 : Nat) = x 0) (h1 : (y 1 : Nat) = o + x 1) :
    codeT (tile X o ho) (rowR X) (gtile g o ho) (expV (rowM X g)) x = codeB X g y := by
  idx_vars x
  have hx : o + (x1 : Nat) < 2560 := by
    have := x1.isLt
    clear h0 h1
    omega
  have ey : y = ix2 x0 ⟨o + x1, hx⟩ := by
    funext i; match i with
    | 0 => exact Fin.ext h0
    | 1 => exact Fin.ext h1
  subst ey
  unfold codeB
  pointwise [codeT, nrm, k0_pay38, tile, gtile]
  rfl

/-- Output 7 holds the codes. -/
theorem out7_eq : out0_A_7 c i arg1 harg1 arg2 harg2 arg3 harg3 arg4 harg4 arg5 harg5 arg6 harg6 arg7 harg7 arg8 harg8 arg9 harg9 b0 b1 b2 b3 b4 b5 = codeB (hB b0 b1 b2 b3 b4) b5 := by
  have h : (kernelRun0_A c i arg1 harg1 arg2 harg2 arg3 harg3 arg4 harg4 arg5 harg5 arg6 harg6 arg7 harg7 arg8 harg8 arg9 harg9 b0 b1 b2 b3 b4 b5).2.1 =
    [⟨Rect.unit ![0, 2304] S256x256.size Gen.inb_S256x2560_S256x256_0_2304, codeT (arg7.view.readCov (kernelRun0_A.sl.H6_10 c arg1 harg1 arg2 harg2 arg3 harg3 arg4 harg4 arg5 harg5 b0 b1 b2 b3 b4) (Rect.unit (s := S256x2560) ![0, 2304] S256x256.size Gen.inb_S256x2560_S256x256_0_2304).toLoadRect) (kernelRun0_A.sl.r_1 c arg1 harg1 arg2 harg2 arg3 harg3 arg4 harg4 arg5 harg5 b0 b1 b2 b3 b4) (arg6.view.readAt (Elt Ideal) (Rect.unit (s := S1x2560) ![0, 2304] S1x256.size Gen.inb_S1x2560_S1x256_0_2304).toLoadRect (harg6.unread b5)) (kernelRun0_A.sl.v410 c arg1 harg1 arg2 harg2 arg3 harg3 arg4 harg4 arg5 harg5 arg6 harg6 arg7 b0 b1 b2 b3 b4 b5)⟩,
     ⟨Rect.unit ![0, 2048] S256x256.size Gen.inb_S256x2560_S256x256_0_2048, codeT (arg7.view.readCov (kernelRun0_A.sl.H6_10 c arg1 harg1 arg2 harg2 arg3 harg3 arg4 harg4 arg5 harg5 b0 b1 b2 b3 b4) (Rect.unit (s := S256x2560) ![0, 2048] S256x256.size Gen.inb_S256x2560_S256x256_0_2048).toLoadRect) (kernelRun0_A.sl.r_1 c arg1 harg1 arg2 harg2 arg3 harg3 arg4 harg4 arg5 harg5 b0 b1 b2 b3 b4) (arg6.view.readAt (Elt Ideal) (Rect.unit (s := S1x2560) ![0, 2048] S1x256.size Gen.inb_S1x2560_S1x256_0_2048).toLoadRect (harg6.unread b5)) (kernelRun0_A.sl.v410 c arg1 harg1 arg2 harg2 arg3 harg3 arg4 harg4 arg5 harg5 arg6 harg6 arg7 b0 b1 b2 b3 b4 b5)⟩,
     ⟨Rect.unit ![0, 1792] S256x256.size Gen.inb_S256x2560_S256x256_0_1792, codeT (arg7.view.readCov (kernelRun0_A.sl.H6_10 c arg1 harg1 arg2 harg2 arg3 harg3 arg4 harg4 arg5 harg5 b0 b1 b2 b3 b4) (Rect.unit (s := S256x2560) ![0, 1792] S256x256.size Gen.inb_S256x2560_S256x256_0_1792).toLoadRect) (kernelRun0_A.sl.r_1 c arg1 harg1 arg2 harg2 arg3 harg3 arg4 harg4 arg5 harg5 b0 b1 b2 b3 b4) (arg6.view.readAt (Elt Ideal) (Rect.unit (s := S1x2560) ![0, 1792] S1x256.size Gen.inb_S1x2560_S1x256_0_1792).toLoadRect (harg6.unread b5)) (kernelRun0_A.sl.v410 c arg1 harg1 arg2 harg2 arg3 harg3 arg4 harg4 arg5 harg5 arg6 harg6 arg7 b0 b1 b2 b3 b4 b5)⟩,
     ⟨Rect.unit ![0, 1536] S256x256.size Gen.inb_S256x2560_S256x256_0_1536, codeT (arg7.view.readCov (kernelRun0_A.sl.H6_10 c arg1 harg1 arg2 harg2 arg3 harg3 arg4 harg4 arg5 harg5 b0 b1 b2 b3 b4) (Rect.unit (s := S256x2560) ![0, 1536] S256x256.size Gen.inb_S256x2560_S256x256_0_1536).toLoadRect) (kernelRun0_A.sl.r_1 c arg1 harg1 arg2 harg2 arg3 harg3 arg4 harg4 arg5 harg5 b0 b1 b2 b3 b4) (arg6.view.readAt (Elt Ideal) (Rect.unit (s := S1x2560) ![0, 1536] S1x256.size Gen.inb_S1x2560_S1x256_0_1536).toLoadRect (harg6.unread b5)) (kernelRun0_A.sl.v410 c arg1 harg1 arg2 harg2 arg3 harg3 arg4 harg4 arg5 harg5 arg6 harg6 arg7 b0 b1 b2 b3 b4 b5)⟩,
     ⟨Rect.unit ![0, 1280] S256x256.size Gen.inb_S256x2560_S256x256_0_1280, codeT (arg7.view.readCov (kernelRun0_A.sl.H6_10 c arg1 harg1 arg2 harg2 arg3 harg3 arg4 harg4 arg5 harg5 b0 b1 b2 b3 b4) (Rect.unit (s := S256x2560) ![0, 1280] S256x256.size Gen.inb_S256x2560_S256x256_0_1280).toLoadRect) (kernelRun0_A.sl.r_1 c arg1 harg1 arg2 harg2 arg3 harg3 arg4 harg4 arg5 harg5 b0 b1 b2 b3 b4) (arg6.view.readAt (Elt Ideal) (Rect.unit (s := S1x2560) ![0, 1280] S1x256.size Gen.inb_S1x2560_S1x256_0_1280).toLoadRect (harg6.unread b5)) (kernelRun0_A.sl.v410 c arg1 harg1 arg2 harg2 arg3 harg3 arg4 harg4 arg5 harg5 arg6 harg6 arg7 b0 b1 b2 b3 b4 b5)⟩,
     ⟨Rect.unit ![0, 1024] S256x256.size Gen.inb_S256x2560_S256x256_0_1024, codeT (arg7.view.readCov (kernelRun0_A.sl.H6_10 c arg1 harg1 arg2 harg2 arg3 harg3 arg4 harg4 arg5 harg5 b0 b1 b2 b3 b4) (Rect.unit (s := S256x2560) ![0, 1024] S256x256.size Gen.inb_S256x2560_S256x256_0_1024).toLoadRect) (kernelRun0_A.sl.r_1 c arg1 harg1 arg2 harg2 arg3 harg3 arg4 harg4 arg5 harg5 b0 b1 b2 b3 b4) (arg6.view.readAt (Elt Ideal) (Rect.unit (s := S1x2560) ![0, 1024] S1x256.size Gen.inb_S1x2560_S1x256_0_1024).toLoadRect (harg6.unread b5)) (kernelRun0_A.sl.v410 c arg1 harg1 arg2 harg2 arg3 harg3 arg4 harg4 arg5 harg5 arg6 harg6 arg7 b0 b1 b2 b3 b4 b5)⟩,
     ⟨Rect.unit ![0, 768] S256x256.size Gen.inb_S256x2560_S256x256_0_768, codeT (arg7.view.readCov (kernelRun0_A.sl.H6_10 c arg1 harg1 arg2 harg2 arg3 harg3 arg4 harg4 arg5 harg5 b0 b1 b2 b3 b4) (Rect.unit (s := S256x2560) ![0, 768] S256x256.size Gen.inb_S256x2560_S256x256_0_768).toLoadRect) (kernelRun0_A.sl.r_1 c arg1 harg1 arg2 harg2 arg3 harg3 arg4 harg4 arg5 harg5 b0 b1 b2 b3 b4) (arg6.view.readAt (Elt Ideal) (Rect.unit (s := S1x2560) ![0, 768] S1x256.size Gen.inb_S1x2560_S1x256_0_768).toLoadRect (harg6.unread b5)) (kernelRun0_A.sl.v410 c arg1 harg1 arg2 harg2 arg3 harg3 arg4 harg4 arg5 harg5 arg6 harg6 arg7 b0 b1 b2 b3 b4 b5)⟩,
     ⟨Rect.unit ![0, 512] S256x256.size Gen.inb_S256x2560_S256x256_0_512, codeT (arg7.view.readCov (kernelRun0_A.sl.H6_10 c arg1 harg1 arg2 harg2 arg3 harg3 arg4 harg4 arg5 harg5 b0 b1 b2 b3 b4) (Rect.unit (s := S256x2560) ![0, 512] S256x256.size Gen.inb_S256x2560_S256x256_0_512).toLoadRect) (kernelRun0_A.sl.r_1 c arg1 harg1 arg2 harg2 arg3 harg3 arg4 harg4 arg5 harg5 b0 b1 b2 b3 b4) (arg6.view.readAt (Elt Ideal) (Rect.unit (s := S1x2560) ![0, 512] S1x256.size Gen.inb_S1x2560_S1x256_0_512).toLoadRect (harg6.unread b5)) (kernelRun0_A.sl.v410 c arg1 harg1 arg2 harg2 arg3 harg3 arg4 harg4 arg5 harg5 arg6 harg6 arg7 b0 b1 b2 b3 b4 b5)⟩,
     ⟨Rect.unit ![0, 256] S256x256.size Gen.inb_S256x2560_S256x256_0_256, codeT (arg7.view.readCov (kernelRun0_A.sl.H6_10 c arg1 harg1 arg2 harg2 arg3 harg3 arg4 harg4 arg5 harg5 b0 b1 b2 b3 b4) (Rect.unit (s := S256x2560) ![0, 256] S256x256.size Gen.inb_S256x2560_S256x256_0_256).toLoadRect) (kernelRun0_A.sl.r_1 c arg1 harg1 arg2 harg2 arg3 harg3 arg4 harg4 arg5 harg5 b0 b1 b2 b3 b4) (arg6.view.readAt (Elt Ideal) (Rect.unit (s := S1x2560) ![0, 256] S1x256.size Gen.inb_S1x2560_S1x256_0_256).toLoadRect (harg6.unread b5)) (kernelRun0_A.sl.v410 c arg1 harg1 arg2 harg2 arg3 harg3 arg4 harg4 arg5 harg5 arg6 harg6 arg7 b0 b1 b2 b3 b4 b5)⟩,
     ⟨Rect.unit ![0, 0] S256x256.size Gen.inb_S256x2560_S256x256_0_0, codeT (arg7.view.readCov (kernelRun0_A.sl.H6_10 c arg1 harg1 arg2 harg2 arg3 harg3 arg4 harg4 arg5 harg5 b0 b1 b2 b3 b4) (Rect.unit (s := S256x2560) ![0, 0] S256x256.size Gen.inb_S256x2560_S256x256_0_0).toLoadRect) (kernelRun0_A.sl.r_1 c arg1 harg1 arg2 harg2 arg3 harg3 arg4 harg4 arg5 harg5 b0 b1 b2 b3 b4) (arg6.view.readAt (Elt Ideal) (Rect.unit (s := S1x2560) ![0, 0] S1x256.size Gen.inb_S1x2560_S1x256_0_0).toLoadRect (harg6.unread b5)) (kernelRun0_A.sl.v410 c arg1 harg1 arg2 harg2 arg3 harg3 arg4 harg4 arg5 harg5 arg6 harg6 arg7 b0 b1 b2 b3 b4 b5)⟩] := rfl
  unfold out0_A_7
  rw [View.read_writes_junk_eq_canon, h, r1_eq, v410_eq, read_h (o := 0) (ho := by omega), read_g (o := 0) (ho := by omega), read_h (o := 256) (ho := by omega), read_g (o := 256) (ho := by omega), read_h (o := 512) (ho := by omega), read_g (o := 512) (ho := by omega), read_h (o := 768) (ho := by omega), read_g (o := 768) (ho := by omega), read_h (o := 1024) (ho := by omega), read_g (o := 1024) (ho := by omega), read_h (o := 1280) (ho := by omega), read_g (o := 1280) (ho := by omega), read_h (o := 1536) (ho := by omega), read_g (o := 1536) (ho := by omega), read_h (o := 1792) (ho := by omega), read_g (o := 1792) (ho := by omega), read_h (o := 2048) (ho := by omega), read_g (o := 2048) (ho := by omega), read_h (o := 2304) (ho := by omega), read_g (o := 2304) (ho := by omega)]
  funext y
  canon_tiles x h
  all_goals
    first
      | exact codeT_at _ _ _ (by omega) x y h0 h1
      | exact codeT_at _ _ _ (by omega) x y h0 (h1.trans (Nat.zero_add _).symm)

/-- The scales of a block with hidden state `X` and weights `g`. -/
def scaleB (X : S256x2560.Idx → EReal) (g : S1x2560.Idx → EReal) : S2x1x128.Idx → EReal := fun y =>
  Ideal.ofBits .f32 ((expV (rowM X g) (ix2 ⟨128 * (y 0 : Nat) + (y 2 : Nat), by
    have h0 : (y 0 : Nat) < 2 := (y 0).isLt; have h2 : (y 2 : Nat) < 128 := (y 2).isLt; omega⟩ 0) + 127#32) <<< 23)

/-- Output 8 holds the scales. -/
theorem out8_eq : out0_A_8 c i arg1 harg1 arg2 harg2 arg3 harg3 arg4 harg4 arg5 harg5 arg6 harg6 arg7 harg7 arg8 harg8 arg9 harg9 b0 b1 b2 b3 b4 b5 = scaleB (hB b0 b1 b2 b3 b4) b5 := by
  have h : (kernelRun0_A c i arg1 harg1 arg2 harg2 arg3 harg3 arg4 harg4 arg5 harg5 arg6 harg6 arg7 harg7 arg8 harg8 arg9 harg9 b0 b1 b2 b3 b4 b5).2.2.1 =
    [⟨Rect.unit ![1, 0, 0] S1x1x128.size Gen.inb_S2x1x128_S1x1x128_1_0_0, k0_pay1 (F := Ideal) (k0_pay54 (F := Ideal) (kernelRun0_A.sl.v410 c arg1 harg1 arg2 harg2 arg3 harg3 arg4 harg4 arg5 harg5 arg6 harg6 arg7 b0 b1 b2 b3 b4 b5))⟩,
     ⟨Rect.unit ![0, 0, 0] S1x1x128.size Gen.inb_S2x1x128_S1x1x128_0_0_0, k0_pay53 (F := Ideal) (kernelRun0_A.sl.v410 c arg1 harg1 arg2 harg2 arg3 harg3 arg4 harg4 arg5 harg5 arg6 harg6 arg7 b0 b1 b2 b3 b4 b5)⟩] := rfl
  unfold out0_A_8
  rw [View.read_writes_junk_eq_canon, h, v410_eq]
  funext y
  canon_tiles x h
  all_goals
    idx_vars x
    pointwise [k0_pay1, k0_pay54, k0_pay53, k0_pay52]
    refine congrArg (fun e => Ideal.ofBits .f32 ((e + 127#32) <<< 23)) (congrArg (expV (rowM (hB b0 b1 b2 b3 b4) b5)) ?_)
    refine congrArg (fun a : Fin 256 => (ix2 a 0 : S256x1.Idx)) (Fin.ext ?_)
    first
      | show 128 + (x2 : Nat) = 128 * (y 0 : Nat) + (y 2 : Nat)
        omega
      | show (x2 : Nat) = 128 * (y 0 : Nat) + (y 2 : Nat)
        omega
end Cert.KernelIdeal.Body
-- ==== Proof.Math.lean ====
module

public import Idealize.ShloMosaic.Lib.Pointwise

@[expose] public section

/-! Sums and maxima over the 2560 columns of a row, regrouped the way twenty half tiles of 128 lanes take them. -/

set_option maxRecDepth 16384
noncomputable section
namespace Cert.Math

/-- A sum over 2560 columns, lane by lane over the twenty half tiles. -/
theorem sum_tiles (F : Nat → EReal) :
    ∑ l : Fin 128, (0 + (F l + F (128 + l)) + (F (256 + l) + F (256 + (128 + l))) + (F (512 + l) + F (512 + (128 + l)))
      + (F (768 + l) + F (768 + (128 + l))) + (F (1024 + l) + F (1024 + (128 + l))) + (F (1280 + l) + F (1280 + (128 + l)))
      + (F (1536 + l) + F (1536 + (128 + l))) + (F (1792 + l) + F (1792 + (128 + l))) + (F (2048 + l) + F (2048 + (128 + l)))
      + (F (2304 + l) + F (2304 + (128 + l)))) = ∑ c : Fin 2560, F c := by
  have h : ∑ c : Fin (20 * 128), F c = ∑ p : Fin 20 × Fin 128, F (p.2 + 128 * p.1) :=
    (Equiv.sum_comp finProdFinEquiv (fun c : Fin (20 * 128) => F c)).symm
  refine Eq.trans ?_ h.symm
  rw [Fintype.sum_prod_type_right]
  refine Finset.sum_congr rfl fun l _ => ?_
  rw [Fin.sum_univ_eq_sum_range (fun k => F (l + 128 * k)) 20]
  simp only [Finset.sum_range_succ, Finset.sum_range_zero, ← add_assoc]
  repeat' refine congrArg₂ (· + ·) ?_ ?_
  all_goals first | rfl | exact congrArg F (by omega)

/-- The largest of 2560 columns that are not negative, lane by lane over the twenty half tiles. -/
theorem max_tiles (F : Nat → EReal) (hF : ∀ c, 0 ≤ F c) :
    Finset.univ.fold max ⊥ (fun l : Fin 128 => max (max (max (max (max (max (max (max (max (max 0
      (max (F l) (F (128 + l)))) (max (F (256 + l)) (F (256 + (128 + l))))) (max (F (512 + l)) (F (512 + (128 + l)))))
      (max (F (768 + l)) (F (768 + (128 + l))))) (max (F (1024 + l)) (F (1024 + (128 + l))))) (max (F (1280 + l)) (F (1280 + (128 + l)))))
      (max (F (1536 + l)) (F (1536 + (128 + l))))) (max (F (1792 + l)) (F (1792 + (128 + l))))) (max (F (2048 + l)) (F (2048 + (128 + l)))))
      (max (F (2304 + l)) (F (2304 + (128 + l))))) = Finset.univ.fold max ⊥ (fun c : Fin 2560 => F c) := by
  have up : ∀ c : Nat, c < 2560 → F c ≤ Finset.univ.fold max ⊥ (fun c : Fin 2560 => F c) := fun c hc =>
    Finset.le_fold_max _ |>.mpr (.inr ⟨⟨c, hc⟩, Finset.mem_univ _, le_refl _⟩)
  refine le_antisymm (Finset.fold_max_le _ |>.mpr ⟨bot_le, fun l _ => ?_⟩) (Finset.fold_max_le _ |>.mpr ⟨bot_le, fun c _ => ?_⟩)
  · have hl := l.isLt
    simp only [max_le_iff]
    have h0 := (hF 0).trans (up 0 (by omega))
    refine ⟨⟨⟨⟨⟨⟨⟨⟨⟨⟨h0, ?_, ?_⟩, ?_, ?_⟩, ?_, ?_⟩, ?_, ?_⟩, ?_, ?_⟩, ?_, ?_⟩, ?_, ?_⟩, ?_, ?_⟩, ?_, ?_⟩, ?_, ?_⟩
    all_goals exact up _ (by omega)
  · refine Finset.le_fold_max _ |>.mpr (.inr ⟨⟨c % 128, Nat.mod_lt _ (by omega)⟩, Finset.mem_univ _, ?_⟩)
    simp only [le_max_iff]
    have hc := c.isLt
    obtain ⟨k, hk⟩ : ∃ k, (c : Nat) / 128 = k := ⟨_, rfl⟩
    have hk20 : k < 20 := by omega
    have e : (c : Nat) = 128 * k + c % 128 := by omega
    generalize (c : Nat) % 128 = l at *
    rw [e]
    interval_cases k
    all_goals
      simp only [← Nat.add_assoc, Nat.reduceMul, Nat.reduceAdd, Nat.zero_add, le_refl, true_or, or_true]
end Cert.Math
-- ==== Proof.Row.lean ====
module

public import Idealize.ShloMosaic.Lib.Pointwise

@[expose] public section

/-! One row of 2560 columns in exact arithmetic: its factor, its largest magnitude, and the exponent word the kernel
counts out of the largest magnitude. -/

set_option maxRecDepth 16384
noncomputable section
namespace Cert.Math
open Idealize.ShloMosaic

/-- One over the root of the mean square of a row, the small constant added. -/
def rr (f : Fin 2560 → EReal) : EReal :=
  Ideal.rsqrt ((∑ c, f c * f c) * ((1 / 2560 : ℝ) : EReal) + Ideal.ofBits .f32 0x3727C5AC#32)

/-- The magnitude of an extended real. -/
def mag (x : EReal) : EReal := max x (-x)

theorem mag_nonneg (x : EReal) : 0 ≤ mag x := by
  rcases le_total 0 x with h | h
  · exact le_max_of_le_left h
  · exact le_max_of_le_right (EReal.neg_nonneg.mpr h)

/-- The largest magnitude of the normalised row. -/
def amax (f g : Fin 2560 → EReal) : EReal := Finset.univ.fold max ⊥ fun c => mag (f c * rr f * g c)

/-- How many words `k * 2^23`, read as floats, the quotient reaches, less one, and not below zero. -/
def biased (q : EReal) : BitVec 32 :=
  IntOp.maxsi (IntOp.subi (Finset.univ.fold IntOp.addi 0#32 fun k : Fin 256 =>
    if Ideal.ofBits .f32 (IntOp.shli ArithUnit.vector (BitVec.ofNat 32 k) 23#32) ≤ mag q then 1#32 else 0#32) 1#32) 0#32

/-- The exponent word of a quotient. -/
def expw (q : EReal) : BitVec 32 :=
  Scalar.select (IntOp.ori (IntOp.cmpi .eq (biased q) 0#32) (IntOp.cmpi .eq (biased q) 255#32)) 0#32 (IntOp.subi (biased q) 126#32)

/-- The exponent the reference takes of a quotient: one above the floor of its binary logarithm, zero below the least
normal float. -/
def refExp (q : EReal) : EReal :=
  Scalar.select (BitVec.ofBool (decide (q < Ideal.ofBits .f32 0x00800000#32))) 0
    (Ideal.liftRound Int.floor (Ideal.div (Scalar.log (F := Ideal) (φ := .f32) q) (Scalar.log (F := Ideal) (φ := .f32) (Ideal.ofBits .f32 0x40000000#32))) + 1)

/-- Dividing by the row's length is multiplying by its inverse. -/
theorem div_2560 (x : EReal) : Ideal.div x (Ideal.ofBits .f32 0x45200000#32) = x * ((1 / 2560 : ℝ) : EReal) := by
  have h : Ideal.ofBits .f32 0x45200000#32 = ((2560 : ℝ) : EReal) := by
    simp [Ideal.ofBits, Ideal.ieee, -EReal.coe_mul]; norm_num
  rw [h, Ideal.div, if_neg (by norm_num), ← EReal.coe_inv]
  norm_num

/-- Two to an extended real. -/
def pow2 (x : EReal) : EReal := FloatOps.exp2 (F := Ideal) (φ := .f32) x

/-- The number kept in the range of the eight-bit format. -/
def clip (x : EReal) : EReal := min (Ideal.ofBits .f32 0x43E00000#32) (max (Ideal.ofBits .f32 0xC3E00000#32) x)

end Cert.Math
-- ==== Proof.Rows.lean ====
module

public import proofs.«01_k».proof.Proof.Outputs
public import proofs.«01_k».proof.Proof.Math
public import proofs.«01_k».proof.Proof.Row

@[expose] public section

/-! The stages of one grid point, row by row. -/

set_option maxRecDepth 16384
noncomputable section
namespace Cert.KernelIdeal.Body
open Cert.KernelIdeal Cert.KernelIdeal.Gen Idealize.ShloMosaic Idealize.ShloMosaic.TcCoe Idealize.SL.Sem

/-- The kernel's named constant is one over 2560. -/
theorem named_inv : Named.named (F := Ideal) κ "inv_d_out" (φ := .f32) 0x39CCCCCD#32 = ((1 / 2560 : ℝ) : EReal) := rfl

/-- The row factor of a block is the row's. -/
theorem rowR_at (X : S256x2560.Idx → EReal) (r : Fin 256) : rowR X (ix2 r 0) = Math.rr fun c => X (ix2 r c) := by
  obtain ⟨F, hF⟩ : ∃ F : Nat → EReal, ∀ n h, X (ix2 r ⟨n, h⟩) = F n :=
    ⟨fun n => if h : n < 2560 then X (ix2 r ⟨n, h⟩) else 0, fun n h => by dsimp only; rw [dif_pos h]⟩
  have hF' : ∀ c : Fin 2560, X (ix2 r c) = F c := fun c => hF c c.isLt
  pointwise [rowR, List.foldl, sqT, k0_pay27, tile]
  simp only [Math.rr, hF', hF]
  rw [← Math.sum_tiles fun n => F n * F n]
  rw [named_inv]
  simp only [zero_add]

/-- The folded magnitudes of a block give the row's largest. -/
theorem rowM_at (X : S256x2560.Idx → EReal) (g : S1x2560.Idx → EReal) (r : Fin 256) :
    (Finset.univ.fold max ⊥ fun l : Fin 128 => rowM X g (ix2 r l)) = Math.amax (fun c => X (ix2 r c)) fun c => g (ix2 0 c) := by
  obtain ⟨F, hF, hn⟩ : ∃ F : Nat → EReal, (∀ n h, FloatOps.absf (F := Ideal) (φ := .f32) (X (ix2 r ⟨n, h⟩) * rowR X (ix2 r 0) * g (ix2 0 ⟨n, h⟩)) = F n) ∧ ∀ n, 0 ≤ F n := by
    refine ⟨fun n => if h : n < 2560 then Math.mag (X (ix2 r ⟨n, h⟩) * rowR X (ix2 r 0) * g (ix2 0 ⟨n, h⟩)) else 0, fun n h => by dsimp only; rw [dif_pos h]; rfl, fun n => ?_⟩
    dsimp only
    split_ifs
    · exact Math.mag_nonneg _
    · exact le_refl _
  have hF' : (fun c : Fin 2560 => Math.mag (X (ix2 r c) * rowR X (ix2 r 0) * g (ix2 0 c))) = fun c : Fin 2560 => F c := funext fun c => hF c c.isLt
  unfold Math.amax
  rw [← rowR_at, hF', ← Math.max_tiles F hn]
  refine congrArg (Finset.fold max ⊥ · Finset.univ) (funext fun l => ?_)
  pointwise [rowM, List.foldl, absT, nrm, tile, gtile]
  simp only [hF]

/-- The exponent word of a row of a block. -/
theorem expV_at (X : S256x2560.Idx → EReal) (g : S1x2560.Idx → EReal) (r : Fin 256) :
    expV (rowM X g) (ix2 r 0) = Math.expw (Math.amax (fun c => X (ix2 r c)) (fun c => g (ix2 0 c)) * Ideal.ofBits .f32 0x3B124925#32) := by
  have hb : Ideal.ofBits .f32 0xFF800000#32 = ⊥ := by simp [Ideal.ofBits, Ideal.ieee]
  pointwise [expV]
  rw [hb, rowM_at]
  rfl
end Cert.KernelIdeal.Body
-- ==== Proof.Spec.lean ====
module

public import proofs.«01_k».proof.Proof.Row

@[expose] public section

/-! The three results as functions of the six argument arrays, element by element. Row `r` of the flattened arrays is token
`r % 1536` of sequence `r / 1536`. -/

set_option maxRecDepth 16384
noncomputable section
namespace Cert.Math
open Idealize.ShloMosaic

/-- The sequence of a row. -/
def seq (r : Fin 18432) : Fin 12 := ⟨r.val / 1536, by omega⟩
/-- The token of a row. -/
def tok (r : Fin 18432) : Fin 1536 := ⟨r.val % 1536, by omega⟩

variable (x : (⟨3, ![12, 1536, 4096]⟩ : Shape).Idx → EReal) (xs : (⟨3, ![12, 1536, 1]⟩ : Shape).Idx → EReal)
  (w : (⟨2, ![4096, 2560]⟩ : Shape).Idx → EReal) (ws : (⟨1, ![2560]⟩ : Shape).Idx → EReal)
  (res : (⟨3, ![12, 1536, 2560]⟩ : Shape).Idx → EReal) (g : (⟨1, ![2560]⟩ : Shape).Idx → EReal)

/-- The hidden state: the scaled product added to the residual. -/
def hid (r : Fin 18432) (l : Fin 2560) : EReal :=
  res (ix3 (seq r) (tok r) l) + (∑ k : Fin 4096, x (ix3 (seq r) (tok r) k) * w (ix2 k l)) * xs (ix3 (seq r) (tok r) 0) * ws (ix1 l)

/-- The quotient of a row: its largest normalised magnitude times the constant nearest one over 448. -/
def quo (r : Fin 18432) : EReal :=
  amax (hid x xs w ws res r) (fun l => g (ix1 l)) * Ideal.ofBits .f32 0x3B124925#32

/-- The codes. -/
def code (r : Fin 18432) (l : Fin 2560) : EReal :=
  clip (hid x xs w ws res r l * rr (hid x xs w ws res r) * g (ix1 l) * pow2 (0 - refExp (quo x xs w ws res g r)))

/-- The scales. -/
def scale (r : Fin 18432) : EReal := pow2 (refExp (quo x xs w ws res g r))

end Cert.Math
-- ==== Proof.Exponent.lean ====
module

public import proofs.«01_k».proof.Proof.Row

@[expose] public section

/-! The exponent word the kernel counts out of a quotient names the power of two the reference takes: both are the power
of two just above the quotient, and one where the quotient is below the least normal float. -/

set_option maxRecDepth 16384
noncomputable section
namespace Cert.Math
open Idealize.ShloMosaic

/-- The float whose exponent field is `k` and whose fraction is zero. -/
def lvl (k : Nat) : EReal := Ideal.ofBits .f32 (BitVec.ofNat 32 k <<< 23)

theorem field_of (k : Fin 256) : (((BitVec.ofNat 32 k <<< 23).extractLsb' 23 8).toNat = k) ∧
    (((BitVec.ofNat 32 k <<< 23).extractLsb' 0 23).toNat = 0) ∧ (((BitVec.ofNat 32 k <<< 23).extractLsb' (8 + 23) 1 == 1#1) = false) := by
  revert k
  decide +kernel

theorem lvl_zero : lvl 0 = 0 := by
  simp [lvl, Ideal.ofBits, Ideal.ieee]

theorem lvl_top : lvl 255 = ⊤ := by
  simp [lvl, Ideal.ofBits, Ideal.ieee]

/-- A normal level is its power of two. -/
theorem lvl_mid (k : Nat) (h0 : 1 ≤ k) (h1 : k ≤ 254) : lvl k = (((2 : ℝ) ^ ((k : ℤ) - 127) : ℝ) : EReal) := by
  obtain ⟨e1, e2, e3⟩ := field_of ⟨k, by omega⟩
  simp only at e1 e2 e3
  have e : lvl k = (((if (false : Bool) = true then -1 else 1 : ℝ) * ((2 ^ 23 + 0 : ℕ) : ℝ) * (2 : ℝ) ^ ((k : ℤ) - (2 ^ (8 - 1) - 1) - ((23 : ℕ) : ℤ)) : ℝ) : EReal) := by
    unfold lvl Ideal.ofBits Ideal.ieee
    simp only [e1, e2, e3]
    rw [if_neg (by omega), if_neg (by omega)]
  rw [e, EReal.coe_eq_coe_iff]
  have : ((k : ℤ) - 127) = 23 + ((k : ℤ) - (2 ^ (8 - 1) - 1) - ((23 : ℕ) : ℤ)) := by norm_num
  rw [this, zpow_add₀ (by norm_num)]
  norm_num

/-- How many of 256 places are at most `j`, made an exponent word. -/
def wordOf (j : Nat) : BitVec 32 :=
  let b := IntOp.maxsi (IntOp.subi (Finset.univ.fold IntOp.addi 0#32 fun k : Fin 256 => if (k : Nat) ≤ j then 1#32 else 0#32) 1#32) 0#32
  Scalar.select (IntOp.ori (IntOp.cmpi .eq b 0#32) (IntOp.cmpi .eq b 255#32)) 0#32 (IntOp.subi b 126#32)

theorem wordOf_eq (j : Fin 253) : ((wordOf j + 127#32) <<< 23 = BitVec.ofNat 32 (if (j : Nat) = 0 then 127 else j + 1) <<< 23) ∧
    ((0#32 - wordOf j + 127#32) <<< 23 = BitVec.ofNat 32 (if (j : Nat) = 0 then 127 else 253 - j) <<< 23) := by
  revert j
  decide +kernel

/-- The word of a quotient, from how many levels it reaches. -/
theorem expw_eq (q : EReal) (j : Nat) (h : ∀ k : Fin 256, lvl k ≤ mag q ↔ (k : Nat) ≤ j) : expw q = wordOf j := by
  have hb : biased q = IntOp.maxsi (IntOp.subi (Finset.univ.fold IntOp.addi 0#32 fun k : Fin 256 => if (k : Nat) ≤ j then 1#32 else 0#32) 1#32) 0#32 := by
    unfold biased
    congr 3
    funext k
    have e : Ideal.ofBits .f32 (IntOp.shli ArithUnit.vector (BitVec.ofNat 32 k) 23#32) = lvl k := by
      unfold lvl IntOp.shli
      rw [if_pos (by decide)]
      rfl
    rw [e]
    exact if_congr (h k) rfl rfl
  unfold expw wordOf
  rw [hb]

/-- The floor of the binary logarithm. -/
def lb (x : ℝ) : ℤ := ⌊Real.log x / Real.log 2⌋

/-- A power of two is at most `x` when its exponent is at most the floor of the logarithm. -/
theorem zpow_le_iff (x : ℝ) (hx : 0 < x) (k : ℤ) : (2 : ℝ) ^ k ≤ x ↔ k ≤ lb x := by
  rw [lb, Int.le_floor, le_div_iff₀ (Real.log_pos (by norm_num)), ← Real.log_zpow, Real.log_le_log_iff (by positivity) hx]

/-- The levels a real below 2^126 reaches are the first ones, up to the place of its leading bit. -/
theorem level (x : ℝ) (h0 : 0 ≤ x) (h1 : x < 2 ^ (126 : ℤ)) : ∃ j : Fin 253, (∀ k : Fin 256, lvl k ≤ (x : EReal) ↔ (k : Nat) ≤ j) ∧
    ((j : Nat) = 0 ∧ x < (2 : ℝ) ^ (-126 : ℤ) ∨ 1 ≤ (j : Nat) ∧ (2 : ℝ) ^ (-126 : ℤ) ≤ x ∧ lb x = (j : ℤ) - 127) := by
  have two : (1 : ℝ) < 2 := by norm_num
  have key : ∀ j : Nat, j ≤ 252 → (∀ k : Nat, 1 ≤ k → k ≤ 254 → ((2 : ℝ) ^ ((k : ℤ) - 127) ≤ x ↔ k ≤ j)) → ∀ k : Fin 256, lvl k ≤ (x : EReal) ↔ (k : Nat) ≤ j := by
    intro j hj hk ⟨k, hk'⟩
    simp only
    rcases Nat.eq_zero_or_pos k with rfl | hp
    · rw [lvl_zero]
      exact ⟨fun _ => Nat.zero_le _, fun _ => by exact_mod_cast h0⟩
    · rcases Nat.lt_or_ge 254 k with h | h
      · obtain rfl : k = 255 := by omega
        rw [lvl_top]
        refine ⟨fun h => absurd h (by simp), fun h => by omega⟩
      · rw [lvl_mid k hp h, EReal.coe_le_coe_iff]
        exact hk k hp h
  rcases lt_or_ge x ((2 : ℝ) ^ (-126 : ℤ)) with hx | hx
  · refine ⟨0, key 0 (by omega) fun k hk _ => ⟨fun h => ?_, fun h => by omega⟩, .inl ⟨rfl, hx⟩⟩
    exact absurd (lt_of_le_of_lt ((zpow_le_zpow_right₀ two.le (by omega)).trans h) hx) (lt_irrefl _)
  · have hpos : 0 < x := lt_of_lt_of_le (by positivity) hx
    have l1 : (-126 : ℤ) ≤ lb x := by
      exact (zpow_le_iff x hpos _).mp hx
    have l2 : lb x < 126 := by
      exact not_le.mp fun h => absurd ((zpow_le_iff x hpos _).mpr h) (not_le.mpr h1)
    refine ⟨⟨(lb x + 127).toNat, by omega⟩, key _ (by simp only; omega) fun k hk hk' => ?_, .inr ⟨by simp only; omega, hx, by simp only; omega⟩⟩
    rw [zpow_le_iff x hpos]
    simp only
    omega

/-- The reference's exponent, from the place of the leading bit. -/
theorem refExp_eq (x : ℝ) (j : Nat) (h : j = 0 ∧ x < (2 : ℝ) ^ (-126 : ℤ) ∨ 1 ≤ j ∧ (2 : ℝ) ^ (-126 : ℤ) ≤ x ∧ lb x = (j : ℤ) - 127) :
    refExp (x : EReal) = (((if j = 0 then 0 else (j : ℤ) - 126 : ℤ) : ℝ) : EReal) := by
  have hm : Ideal.ofBits .f32 0x00800000#32 = (((2 : ℝ) ^ (-126 : ℤ) : ℝ) : EReal) := by
    have := lvl_mid 1 (by omega) (by omega)
    norm_num [lvl] at this ⊢
    exact this
  have h2 : Ideal.ofBits .f32 0x40000000#32 = ((2 : ℝ) : EReal) := by
    have := lvl_mid 128 (by omega) (by omega)
    norm_num [lvl] at this ⊢
    exact this
  unfold refExp
  rw [hm, h2]
  rcases h with ⟨rfl, h⟩ | ⟨hj, h, hl⟩
  · rw [decide_eq_true (EReal.coe_lt_coe_iff.mpr h)]
    simp [Scalar.select]
  · have hpos : 0 < x := lt_of_lt_of_le (by positivity) h
    rw [decide_eq_false (by rw [EReal.coe_lt_coe_iff]; exact not_lt.mpr h)]
    have e1 : Scalar.log (F := Ideal) (φ := .f32) (x : EReal) = ((Real.log x : ℝ) : EReal) := by
      show Ideal.log (x : EReal) = _
      show (if x ≤ 0 then ⊥ else (Real.log x : EReal)) = _
      rw [if_neg (not_le.mpr hpos)]
    have e2 : Scalar.log (F := Ideal) (φ := .f32) ((2 : ℝ) : EReal) = ((Real.log 2 : ℝ) : EReal) := by
      show (if (2 : ℝ) ≤ 0 then ⊥ else (Real.log 2 : EReal)) = _
      rw [if_neg (by norm_num)]
    have hl2 : Real.log 2 ≠ 0 := (Real.log_pos (by norm_num)).ne'
    have e3 : Ideal.div ((Real.log x : ℝ) : EReal) ((Real.log 2 : ℝ) : EReal) = ((Real.log x / Real.log 2 : ℝ) : EReal) := by
      rw [Ideal.div, if_neg (by exact_mod_cast hl2), ← EReal.coe_inv, ← EReal.coe_mul, div_eq_mul_inv]
    rw [e1, e2, e3]
    show (((⌊Real.log x / Real.log 2⌋ : ℤ) : ℝ) : EReal) + 1 = _
    rw [show ⌊Real.log x / Real.log 2⌋ = (j : ℤ) - 127 from hl, if_neg (by omega)]
    rw [← EReal.coe_one, ← EReal.coe_add, EReal.coe_eq_coe_iff]
    push_cast
    ring

theorem pow2_int (n : ℤ) : pow2 (((n : ℝ)) : EReal) = (((2 : ℝ) ^ n : ℝ) : EReal) := by
  show ((Real.rpow 2 (n : ℝ) : ℝ) : EReal) = _
  rw [Real.rpow_eq_pow, Real.rpow_intCast]

/-- The two scales: the float the kernel makes of the exponent word is the reference's power of two, and so is the one it
makes of the negated word. -/
theorem words (q : EReal) (h0 : 0 ≤ q) (h1 : q < (((2 : ℝ) ^ (126 : ℤ) : ℝ) : EReal)) :
    Ideal.ofBits .f32 ((expw q + 127#32) <<< 23) = pow2 (refExp q) ∧
      Ideal.ofBits .f32 ((0#32 - expw q + 127#32) <<< 23) = pow2 (0 - refExp q) := by
  induction q using EReal.rec with
  | bot => exact absurd h0 (by simp)
  | top => exact absurd h1 (by simp)
  | coe x =>
    have hx0 : 0 ≤ x := by exact_mod_cast h0
    have hx1 : x < 2 ^ (126 : ℤ) := EReal.coe_lt_coe_iff.mp h1
    obtain ⟨j, hj, h⟩ := level x hx0 hx1
    have hm : mag (x : EReal) = x := max_eq_left (by rw [← EReal.coe_neg, EReal.coe_le_coe_iff]; linarith)
    obtain ⟨w1, w2⟩ := wordOf_eq j
    have hlt := j.isLt
    rw [expw_eq x j (by rw [hm]; exact hj), refExp_eq x j h, w1, w2]
    have z : (0 : EReal) - (((if (j : Nat) = 0 then 0 else ((j : Nat) : ℤ) - 126 : ℤ) : ℝ) : EReal) = (((-(if (j : Nat) = 0 then 0 else ((j : Nat) : ℤ) - 126) : ℤ) : ℝ) : EReal) := by
      rw [zero_sub]
      push_cast
      rfl
    rw [z, pow2_int, pow2_int]
    refine ⟨(lvl_mid _ ?_ ?_).trans ?_, (lvl_mid _ ?_ ?_).trans ?_⟩
    · split_ifs <;> omega
    · split_ifs <;> omega
    · congr 2; split_ifs <;> push_cast <;> omega
    · split_ifs <;> omega
    · split_ifs <;> omega
    · congr 2; split_ifs <;> omega

end Cert.Math
-- ==== Proof.Bound.lean ====
module

public import proofs.«01_k».proof.Proof.Row

@[expose] public section

/-! A row divided by the root of its mean square stays below the root of its length, so with finite weights the row's
quotient stays far below the largest power of two a float holds. -/

set_option maxRecDepth 16384
noncomputable section
namespace Cert.Math
open Idealize.ShloMosaic

theorem eps_real : ∃ e : ℝ, 0 < e ∧ Ideal.ofBits .f32 0x3727C5AC#32 = (e : EReal) := by
  refine ⟨_, ?_, by simp [Ideal.ofBits, Ideal.ieee, -EReal.coe_mul]; rfl⟩
  norm_num

theorem inv448_real : ∃ e : ℝ, 0 < e ∧ e ≤ 1 / 256 ∧ Ideal.ofBits .f32 0x3B124925#32 = (e : EReal) := by
  refine ⟨_, ?_, ?_, by simp [Ideal.ofBits, Ideal.ieee, -EReal.coe_mul]; rfl⟩ <;> norm_num

theorem sq_nonneg (x : EReal) : 0 ≤ x * x := by
  induction x using EReal.rec with
  | bot => simp
  | top => simp
  | coe x => rw [← EReal.coe_mul]; exact_mod_cast mul_self_nonneg x

/-- A row with an infinite entry has factor zero. -/
theorem rr_inf (f : Fin 2560 → EReal) (c : Fin 2560) (h : f c * f c = ⊤) : rr f = 0 := by
  obtain ⟨e, he, hE⟩ := eps_real
  have hs : ∑ c, f c * f c = ⊤ := by
    refine top_le_iff.mp ?_
    rw [← h]
    exact Finset.single_le_sum (f := fun c => f c * f c) (fun i _ => sq_nonneg (f i)) (Finset.mem_univ c)
  rw [rr, hs, hE, EReal.top_mul_coe_of_pos (by norm_num), EReal.top_add_coe]
  rfl

/-- A row of reals has a real factor, at most 51 over any of its magnitudes. -/
theorem rr_real (F : Fin 2560 → ℝ) : ∃ ρ : ℝ, 0 ≤ ρ ∧ rr (fun c => (F c : EReal)) = (ρ : EReal) ∧ ∀ c, |F c| * ρ ≤ 51 := by
  obtain ⟨e, he, hE⟩ := eps_real
  have hs : (∑ c, (F c : EReal) * (F c : EReal)) = ((∑ c, F c * F c : ℝ) : EReal) := by
    induction (Finset.univ : Finset (Fin 2560)) using Finset.induction_on with
    | empty => simp
    | insert a t ha ih => rw [Finset.sum_insert ha, Finset.sum_insert ha, ih, EReal.coe_add, EReal.coe_mul]
  set S : ℝ := ∑ c, F c * F c with hS
  have hS0 : 0 ≤ S := Finset.sum_nonneg fun c _ => mul_self_nonneg _
  have hm : 0 < S * (1 / 2560) + e := by positivity
  refine ⟨(Real.sqrt (S * (1 / 2560) + e))⁻¹, by positivity, ?_, fun c => ?_⟩
  · rw [rr, hs, hE, ← EReal.coe_mul, ← EReal.coe_add]
    show (if S * (1 / 2560) + e < 0 then ⊥ else if S * (1 / 2560) + e = 0 then ⊤ else (((Real.sqrt (S * (1 / 2560) + e))⁻¹ : ℝ) : EReal)) = _
    rw [if_neg (not_lt.mpr hm.le), if_neg hm.ne']
  · have hc : F c * F c ≤ S := Finset.single_le_sum (f := fun c => F c * F c) (fun i _ => mul_self_nonneg (F i)) (Finset.mem_univ c)
    have h51 : |F c| ≤ 51 * Real.sqrt (S * (1 / 2560) + e) := by
      refine abs_le_of_sq_le_sq ?_ (by positivity)
      rw [mul_pow, Real.sq_sqrt hm.le]
      nlinarith
    rw [← div_eq_mul_inv, div_le_iff₀ (Real.sqrt_pos.mpr hm)]
    exact h51

/-- With weights below 2^128 the quotient is below 2^126. -/
theorem quot_bound (f g : Fin 2560 → EReal) (hg : ∀ c, ∃ r : ℝ, g c = (r : EReal) ∧ |r| ≤ 2 ^ 128) :
    0 ≤ amax f g * Ideal.ofBits .f32 0x3B124925#32 ∧ amax f g * Ideal.ofBits .f32 0x3B124925#32 < (((2 : ℝ) ^ (126 : ℤ) : ℝ) : EReal) := by
  obtain ⟨k, hk0, hk, hK⟩ := inv448_real
  have h0 : 0 ≤ amax f g := (Finset.le_fold_max 0).mpr (.inr ⟨0, Finset.mem_univ _, mag_nonneg _⟩)
  have hB : ∀ c, mag (f c * rr f * g c) ≤ ((51 * 2 ^ 128 : ℝ) : EReal) := by
    by_cases hf : ∃ c, f c * f c = ⊤
    · obtain ⟨c, hc⟩ := hf
      intro c'
      rw [rr_inf f c hc, mul_zero, zero_mul, mag, neg_zero, max_self]
      exact_mod_cast (by positivity : (0 : ℝ) ≤ 51 * 2 ^ 128)
    · have hr : ∀ c, ∃ r : ℝ, f c = (r : EReal) := fun c => by
        induction hx : f c using EReal.rec with
        | bot => exact absurd ⟨c, by rw [hx]; rfl⟩ hf
        | top => exact absurd ⟨c, by rw [hx]; rfl⟩ hf
        | coe x => exact ⟨x, rfl⟩
      choose F hF using hr
      obtain rfl : f = fun c => (F c : EReal) := funext hF
      obtain ⟨ρ, hρ, e, hb⟩ := rr_real F
      intro c
      obtain ⟨r, er, hr⟩ := hg c
      rw [e, er, mag, ← EReal.coe_mul, ← EReal.coe_mul, ← EReal.coe_neg]
      have key : |F c * ρ * r| ≤ 51 * 2 ^ 128 := by
        rw [abs_mul, abs_mul, abs_of_nonneg hρ]
        exact mul_le_mul (hb c) hr (abs_nonneg _) (by norm_num)
      refine max_le ?_ ?_ <;> rw [EReal.coe_le_coe_iff]
      · exact (le_abs_self _).trans key
      · exact (neg_le_abs _).trans key
  have hA : amax f g ≤ ((51 * 2 ^ 128 : ℝ) : EReal) := (Finset.fold_max_le _).mpr ⟨bot_le, fun c _ => hB c⟩
  generalize amax f g = a at h0 hA
  induction a using EReal.rec with
  | bot => exact absurd h0 (by simp)
  | top => exact absurd hA (not_le.mpr (EReal.coe_lt_top _))
  | coe a =>
    have ha0 : 0 ≤ a := by exact_mod_cast h0
    have ha : a ≤ 51 * 2 ^ 128 := EReal.coe_le_coe_iff.mp hA
    rw [hK, ← EReal.coe_mul]
    refine ⟨by exact_mod_cast mul_nonneg ha0 hk0.le, EReal.coe_lt_coe_iff.mpr ?_⟩
    calc a * k ≤ (51 * 2 ^ 128) * (1 / 256) := mul_le_mul ha hk hk0.le (by norm_num)
      _ < 2 ^ (126 : ℤ) := by norm_num

/-- The largest float, and a weight it bounds. -/
theorem weight_real (x : EReal) (h : mag x ≤ Ideal.ofBits .f32 0x7F7FFFFF#32) : ∃ r : ℝ, x = (r : EReal) ∧ |r| ≤ 2 ^ 128 := by
  obtain ⟨M, hM, e⟩ : ∃ M : ℝ, M ≤ 2 ^ 128 ∧ Ideal.ofBits .f32 0x7F7FFFFF#32 = (M : EReal) := by
    refine ⟨_, ?_, by simp [Ideal.ofBits, Ideal.ieee, -EReal.coe_mul]; rfl⟩
    norm_num
  rw [e] at h
  have h1 := (le_max_left _ _).trans h
  have h2 := (le_max_right _ _).trans h
  induction x using EReal.rec with
  | bot => exact absurd h2 (by simp)
  | top => exact absurd h1 (by simp)
  | coe x =>
    rw [← EReal.coe_neg] at h2
    exact ⟨x, rfl, abs_le.mpr ⟨by linarith [EReal.coe_le_coe_iff.mp h2], (EReal.coe_le_coe_iff.mp h1).trans hM⟩⟩

end Cert.Math
-- ==== Proof.KerBlock.lean ====
module

public import proofs.«01_k».proof.Proof.Gen.KernelIdeal.Value
public import Idealize.ShloMosaic.Lib.Claim
public import proofs.«01_k».proof.Proof.Rows
public import proofs.«01_k».proof.Proof.Spec
public import proofs.«01_k».proof.Proof.Exponent
public import proofs.«01_k».proof.Proof.Bound

@[expose] public section

/-! The blocks a grid point reads, as parts of the argument arrays. -/

set_option maxRecDepth 16384
noncomputable section
namespace Cert.KernelIdeal.Body
open Cert.KernelIdeal Cert.KernelIdeal.Gen Idealize.ShloMosaic Idealize.ShloMosaic.TcCoe Idealize.SL.Sem

variable (m : (ℓ : Loc nD τ sig) → Buf (Elt Ideal) ℓ) (c : Dev nD)

theorem i0 : ∀ t : Fin cfg0.N, win0_0.index t = ![(grid0.coords t 0).val, 0] := (by decide +kernel : ∀ t : Fin grid0.N, _)
theorem i1 : ∀ t : Fin cfg0.N, win0_1.index t = ![(grid0.coords t 0).val, 0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![(grid0.coords t 0).val, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![(grid0.coords t 0).val, 0] := (by decide +kernel : ∀ t : Fin grid0.N, _)
theorem i7 : ∀ t : Fin cfg0.N, win0_7.index t = ![(grid0.coords t 0).val, 0] := (by decide +kernel : ∀ t : Fin grid0.N, _)
theorem i8 : ∀ t : Fin cfg0.N, win0_8.index t = ![(grid0.coords t 0).val, 0, 0] := (by decide +kernel : ∀ t : Fin grid0.N, _)

/-- Row `r` of the block of point `t`. -/
def rowOf (t : Fin cfg0.N) (r : Fin 256) : Fin 18432 := ⟨256 * (grid0.coords t 0).val + r.val, by
  have h : (grid0.coords t 0).val < 72 := (grid0.coords t 0).isLt
  omega⟩

/-! The host's reshapes of the arguments, at an index. -/

theorem v0 (r : Fin 18432) (k : Fin 4096) : V m c main_v0 (ix2 r k) = m ((c : Thread nD τ).loc main_arg0) (ix3 (Math.seq r) (Math.tok r) k) := by
  entry_read
  pointwise
  rfl

theorem v1 (a : Fin 144) (l : Fin 128) (r : Fin 18432) (h : r.val = 128 * a.val + l.val) : V m c main_v1 (ix3 a 0 l) = m ((c : Thread nD τ).loc main_arg1) (ix3 (Math.seq r) (Math.tok r) 0) := by
  have e1 : Math.seq r = ⟨a.val / 12, by omega⟩ := Fin.ext (by simp only [Math.seq]; omega)
  have e2 : Math.tok r = ⟨a.val % 12 * 128 + l.val, by omega⟩ := Fin.ext (by simp only [Math.tok]; omega)
  rw [e1, e2]
  entry_read
  pointwise

theorem v2 (l : Fin 2560) : V m c main_v2 (ix2 0 l) = m ((c : Thread nD τ).loc main_arg3) (ix1 l) := by
  entry_read
  pointwise

theorem v3 (r : Fin 18432) (l : Fin 2560) : V m c main_v3 (ix2 r l) = m ((c : Thread nD τ).loc main_arg4) (ix3 (Math.seq r) (Math.tok r) l) := by
  entry_read
  pointwise
  rfl

theorem v4 (l : Fin 2560) : V m c main_v4 (ix2 0 l) = m ((c : Thread nD τ).loc main_arg5) (ix1 l) := by
  entry_read
  pointwise

/-! The blocks of a point, at an index. -/

theorem blk0 (t : Fin cfg0.N) (r : Fin 256) (k : Fin 4096) : iblk m c 0 t (ix2 r k) = m ((c : Thread nD τ).loc main_arg0) (ix3 (Math.seq (rowOf t r)) (Math.tok (rowOf t r)) k) := by
  refine Eq.trans ?_ (v0 m c (rowOf t r) k)
  blk_ext [iblk, i0, rowOf]

theorem blk1 (t : Fin cfg0.N) (r : Fin 256) : iblk m c 1 t (ix3 ⟨r.val / 128, by omega⟩ 0 ⟨r.val % 128, by omega⟩) = m ((c : Thread nD τ).loc main_arg1) (ix3 (Math.seq (rowOf t r)) (Math.tok (rowOf t r)) 0) := by
  have h : (grid0.coords t 0).val < 72 := (grid0.coords t 0).isLt
  refine Eq.trans ?_ (v1 m c ⟨2 * (grid0.coords t 0).val + r.val / 128, by omega⟩ ⟨r.val % 128, by omega⟩ (rowOf t r) (by simp only [rowOf]; omega))
  blk_ext [iblk, i1]

theorem blk2 (t : Fin cfg0.N) (k : Fin 4096) (l : Fin 2560) : iblk m c 2 t (ix2 k l) = m ((c : Thread nD τ).loc main_arg2) (ix2 k l) := by
  refine Eq.trans ?_ (congrFun (V_main_arg2 m c) (ix2 k l))
  blk_ext [iblk, i2]

theorem blk3 (t : Fin cfg0.N) (l : Fin 2560) : iblk m c 3 t (ix2 0 l) = m ((c : Thread nD τ).loc main_arg3) (ix1 l) := by
  refine Eq.trans ?_ (v2 m c l)
  blk_ext [iblk, i3]

theorem blk4 (t : Fin cfg0.N) (r : Fin 256) (l : Fin 2560) : iblk m c 4 t (ix2 r l) = m ((c : Thread nD τ).loc main_arg4) (ix3 (Math.seq (rowOf t r)) (Math.tok (rowOf t r)) l) := by
  refine Eq.trans ?_ (v3 m c (rowOf t r) l)
  blk_ext [iblk, i4, rowOf]

theorem blk5 (t : Fin cfg0.N) (l : Fin 2560) : iblk m c 5 t (ix2 0 l) = m ((c : Thread nD τ).loc main_arg5) (ix1 l) := by
  refine Eq.trans ?_ (v4 m c l)
  blk_ext [iblk, i5]

/-! The results of the whole program, from the argument arrays. -/

/-- The hidden state of the run's arguments. -/
def hidK (r : Fin 18432) (l : Fin 2560) : EReal :=
  Math.hid (m ((c : Thread nD τ).loc main_arg0)) (m ((c : Thread nD τ).loc main_arg1)) (m ((c : Thread nD τ).loc main_arg2))
    (m ((c : Thread nD τ).loc main_arg3)) (m ((c : Thread nD τ).loc main_arg4)) r l

/-- The codes of the run's arguments. -/
def codeK (r : Fin 18432) (l : Fin 2560) : EReal :=
  Math.code (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r l

/-- The scales of the run's arguments. -/
def scaleK (r : Fin 18432) : EReal :=
  Math.scale (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r

/-- A point's hidden state is its rows of the program's. -/
theorem hB_blk (t : Fin cfg0.N) (r : Fin 256) (l : Fin 2560) :
    hB (iblk m c 0 t) (iblk m c 1 t) (iblk m c 2 t) (iblk m c 3 t) (iblk m c 4 t) (ix2 r l) = hidK m c (rowOf t r) l := by
  unfold hidK Math.hid
  rw [← blk4 m c t r l, ← blk1 m c t r, ← blk3 m c t l]
  simp only [← blk0 m c t r, ← blk2 m c t]
  rfl

/-- The weights are finite. -/
def Fin32 : Prop := ∀ l : Fin 2560, Math.mag (m ((c : Thread nD τ).loc main_arg5) (ix1 l)) ≤ Ideal.ofBits .f32 0x7F7FFFFF#32

/-- The kernel's two powers of two of a row are the reference's. -/
theorem words_blk (h : Fin32 m c) (t : Fin cfg0.N) (r : Fin 256) (X : S256x2560.Idx → EReal) (hX : ∀ l, X (ix2 r l) = hidK m c (rowOf t r) l) :
    Ideal.ofBits .f32 ((expV (rowM X (iblk m c 5 t)) (ix2 r 0) + 127#32) <<< 23) = scaleK m c (rowOf t r) ∧
      Ideal.ofBits .f32 ((0#32 - expV (rowM X (iblk m c 5 t)) (ix2 r 0) + 127#32) <<< 23) =
        Math.pow2 (0 - Math.refExp (Math.amax (hidK m c (rowOf t r)) (fun l => m ((c : Thread nD τ).loc main_arg5) (ix1 l)) * Ideal.ofBits .f32 0x3B124925#32)) := by
  rw [expV_at]
  simp only [hX, blk5]
  have b := Math.quot_bound (hidK m c (rowOf t r)) (fun l => m ((c : Thread nD τ).loc main_arg5) (ix1 l)) fun l => Math.weight_real _ (h l)
  exact Math.words _ b.1 b.2

/-- A point's codes are its rows of the program's. -/
theorem codeB_blk (h : Fin32 m c) (t : Fin cfg0.N) (r : Fin 256) (l : Fin 2560) :
    codeB (hB (iblk m c 0 t) (iblk m c 1 t) (iblk m c 2 t) (iblk m c 3 t) (iblk m c 4 t)) (iblk m c 5 t) (ix2 r l) = codeK m c (rowOf t r) l := by
  have hX := hB_blk m c t r
  generalize hB (iblk m c 0 t) (iblk m c 1 t) (iblk m c 2 t) (iblk m c 3 t) (iblk m c 4 t) = X at hX ⊢
  have w := (words_blk m c h t r X hX).2
  show min _ (max _ (X (ix2 r l) * rowR X (ix2 r 0) * iblk m c 5 t (ix2 0 l) * Ideal.ofBits .f32 ((0#32 - expV (rowM X (iblk m c 5 t)) (ix2 r 0) + 127#32) <<< 23))) = _
  rw [w, rowR_at, blk5]
  simp only [hX]
  rfl

/-- A point's scales are its rows of the program's. -/
theorem scaleB_blk (h : Fin32 m c) (t : Fin cfg0.N) (a : Fin 2) (l : Fin 128) :
    scaleB (hB (iblk m c 0 t) (iblk m c 1 t) (iblk m c 2 t) (iblk m c 3 t) (iblk m c 4 t)) (iblk m c 5 t) (ix3 a 0 l) = scaleK m c (rowOf t ⟨128 * a.val + l.val, by omega⟩) :=
  (words_blk m c h t ⟨128 * a.val + l.val, by omega⟩ _ (hB_blk m c t _)).1

end Cert.KernelIdeal.Body
-- ==== Proof.KerArrays.lean ====
module

public import proofs.«01_k».proof.Proof.KerBlock

@[expose] public section

/-! The kernel's three result arrays after the run. -/

set_option maxRecDepth 16384
noncomputable section
namespace Cert.KernelIdeal.Body
open Cert.KernelIdeal Cert.KernelIdeal.Gen Idealize.ShloMosaic Idealize.ShloMosaic.TcCoe Idealize.SL.Sem

variable (m : (ℓ : Loc nD τ sig) → Buf (Elt Ideal) ℓ) (c : Dev nD)

/-- The row a scale belongs to. -/
def srow (a : Fin 144) (l : Fin 128) : Fin 18432 := ⟨a.val * 128 + l.val, by omega⟩

/-- Row `a` of scales of the block of point `t`. -/
def blkOf (t : Fin cfg0.N) (a : Fin 2) : Fin 144 := ⟨2 * (grid0.coords t 0).val + a.val, by
  have h : (grid0.coords t 0).val < 72 := (grid0.coords t 0).isLt
  omega⟩

theorem emb6 (t : Fin cfg0.N) (r : Fin 256) (l : Fin 2560) : (win0_6.blk t).view.emb (ix2 r l : S256x2560.Idx) = (ix2 (rowOf t r) l : S18432x2560.Idx) := by
  blk_ext [i6, rowOf]

theorem emb7 (t : Fin cfg0.N) (r : Fin 256) (l : Fin 2560) : (win0_7.blk t).view.emb (ix2 r l : S256x2560.Idx) = (ix2 (rowOf t r) l : S18432x2560.Idx) := by
  blk_ext [i7, rowOf]

theorem emb8 (t : Fin cfg0.N) (a : Fin 2) (l : Fin 128) : (win0_8.blk t).view.emb (ix3 a 0 l : S2x1x128.Idx) = (ix3 (blkOf t a) 0 l : S144x1x128.Idx) := by
  blk_ext [i8, blkOf]

/-- Any index of a two-axis block is a pair. -/
theorem pair (y : S256x2560.Idx) : ∃ r l, y = ix2 r l := ⟨y 0, y 1, by idx_ext⟩

/-- Any index of a block of scales is a triple with a zero. -/
theorem triple (y : S2x1x128.Idx) : ∃ a l, y = ix3 a 0 l := by
  idx_vars y
  exact ⟨_, _, by idx_ext⟩

/-- The first result: the hidden state. -/
theorem arr6 : (dats m 0 c).arrAt 6 cfg0.N = fun i : S18432x2560.Idx => hidK m c (i 0) (i 1) := by
  refine (dats m 0 c).arrAt_eq_of_covers 6 _ (by decide +kernel) fun t hf y => ?_
  blk_simp
  rw [after0_6]
  simp only [outsAt0]
  rw [out6_eq]
  obtain ⟨r, l, rfl⟩ := pair y
  refine (hB_blk m c t r l).trans ?_
  exact congrArg (fun i : S18432x2560.Idx => hidK m c (i 0) (i 1)) (emb6 t r l).symm

/-- The second result: the codes. -/
theorem arr7 (h : Fin32 m c) : (dats m 0 c).arrAt 7 cfg0.N = fun i : S18432x2560.Idx => codeK m c (i 0) (i 1) := by
  generalize hG : (fun i : S18432x2560.Idx => codeK m c (i 0) (i 1)) = G
  refine (dats m 0 c).arrAt_eq_of_covers 7 _ (by decide +kernel) fun t hf y => ?_
  blk_simp
  rw [after0_7]
  simp only [outsAt0]
  rw [out7_eq]
  obtain ⟨r, l, rfl⟩ := pair y
  refine Eq.trans ?_ (congrArg G (emb7 t r l).symm)
  subst hG
  exact codeB_blk m c h t r l

/-- The third result: the scales. -/
theorem arr8 (h : Fin32 m c) : (dats m 0 c).arrAt 8 cfg0.N = fun i : S144x1x128.Idx => scaleK m c (srow (i 0) (i 2)) := by
  refine (dats m 0 c).arrAt_eq_of_covers 8 _ (by decide +kernel) fun t hf y => ?_
  blk_simp
  rw [after0_8]
  simp only [outsAt0]
  rw [out8_eq]
  obtain ⟨a, l, rfl⟩ := triple y
  refine (scaleB_blk m c h t a l).trans ?_
  refine Eq.trans (congrArg (scaleK m c) (Fin.ext ?_)) (congrArg (fun i : S144x1x128.Idx => scaleK m c (srow (i 0) (i 2))) (emb8 t a l).symm)
  show 256 * (grid0.coords t 0).val + (128 * a.val + l.val) = (2 * (grid0.coords t 0).val + a.val) * 128 + l.val
  omega

end Cert.KernelIdeal.Body
-- ==== Proof.Ref.lean ====
module

public import proofs.«01_k».proof.Proof.Gen.ReferenceIdeal.Value
public import Idealize.ShloMosaic.Lib.Pipeline.ValueKit
public import Idealize.ShloMosaic.Lib.Pointwise
public import proofs.«01_k».proof.Proof.Row

@[expose] public section

/-! What the reference's body leaves in its three results, at an index. -/

set_option maxRecDepth 16384
noncomputable section
namespace Cert.ReferenceIdeal.Body
open Cert.ReferenceIdeal Cert.ReferenceIdeal.Gen Idealize.ShloMosaic Idealize.ShloMosaic.TcCoe Idealize.SL.Sem

/-- A maximum along the rows of a matrix of any size, at a row. -/
theorem rowmax {a b : Nat} (v : FVec Ideal ⟨2, ![a, b]⟩ .f32) (h : Shape.Reduces ⟨2, ![a, b]⟩ [1] ⟨1, ![a]⟩) (hφ) (hacc) (r : Fin a) :
    multiReduction .maximumf [1] ⟨1, ![a]⟩ v 0xFF800000#32 h hφ hacc (ix1 r) = Finset.univ.fold max ⊥ fun k : Fin b => v (ix2 r k) := by
  have hb : Ideal.ofBits .f32 0xFF800000#32 = ⊥ := by simp [Ideal.ofBits, Ideal.ieee]
  rw [← hb]
  simp only [pointwise]

variable (b0 : Vec Ideal S18432x4096 .fp8e4m3) (b1 : Vec Ideal S18432x1 .f32) (b2 : Vec Ideal S4096x2560 .fp8e4m3) (b3 : Vec Ideal S1x2560 .f32)
  (b4 : Vec Ideal S18432x2560 .bf16) (b5 : Vec Ideal S1x2560 .f32)

/-- The row maximum, at a row. -/
theorem max_at (v : FVec Ideal S18432x2560 .f32) (r : Fin 18432) :
    multiReduction .maximumf [1] S18432 v 0xFF800000#32 reduces_S18432x2560_S18432 (.inl rfl) rfl (ix1 r) =
      Finset.univ.fold max ⊥ fun k : Fin 2560 => v (ix2 r k) :=
  rowmax v reduces_S18432x2560_S18432 (.inl rfl) rfl r

/-- A column of row values times the constant, at a row. -/
theorem scaled_at (M : FVec Ideal S18432 .f32) (r : Fin 18432) :
    mulf (shapeCast S18432x1 M shapeCasts_S18432_S18432x1) (broadcast S18432x1 (Scalar.ofBits .f32 0x3B124925#32)) (ix2 r 0) =
      M (ix1 r) * Ideal.ofBits .f32 0x3B124925#32 := by
  pointwise

/-- The quotient of a row, from the normalised array it is taken of. -/
theorem pay6_at (r : Fin 18432) : k0_pay6 (F := Ideal) b0 b2 b1 b3 b4 b5 (ix2 r 0) =
    (Finset.univ.fold max ⊥ fun l : Fin 2560 => Math.mag (k0_pay5 (F := Ideal) b0 b2 b1 b3 b4 b5 (ix2 r l))) * Ideal.ofBits .f32 0x3B124925#32 := by
  unfold k0_pay6
  generalize k0_pay5 (F := Ideal) b0 b2 b1 b3 b4 b5 = N
  rw [scaled_at, max_at]
  rfl

/-- The hidden state at an index, from the six operands. -/
def hR (r : Fin 18432) (l : Fin 2560) : EReal :=
  b4 (ix2 r l) + (∑ k : Fin 4096, b0 (ix2 r k) * b2 (ix2 k l)) * b1 (ix2 r 0) * b3 (ix2 0 l)

theorem pay4_at (r : Fin 18432) (l : Fin 2560) : k0_pay4 (F := Ideal) b0 b2 b1 b3 b4 (ix2 r l) = hR b0 b1 b2 b3 b4 r l := by
  pointwise [k0_pay4]
  rfl

theorem pay5_at (r : Fin 18432) (l : Fin 2560) : k0_pay5 (F := Ideal) b0 b2 b1 b3 b4 b5 (ix2 r l) =
    hR b0 b1 b2 b3 b4 r l * Math.rr (hR b0 b1 b2 b3 b4 r) * b5 (ix2 0 l) := by
  pointwise [k0_pay5]
  simp only [pay4_at]
  show _ * Ideal.rsqrt (Ideal.div _ (Ideal.ofBits .f32 0x45200000#32) + _) * _ = _
  rw [Math.div_2560]
  rfl

/-- The quotient of a row. -/
def qR (r : Fin 18432) : EReal := Math.amax (hR b0 b1 b2 b3 b4 r) (fun l => b5 (ix2 0 l)) * Ideal.ofBits .f32 0x3B124925#32

theorem pay6_row (r : Fin 18432) : k0_pay6 (F := Ideal) b0 b2 b1 b3 b4 b5 (ix2 r 0) = qR b0 b1 b2 b3 b4 b5 r := by
  rw [pay6_at]
  simp only [pay5_at]
  rfl

/-- A column compared with the least normal float, at a row. -/
theorem below_at (q : FVec Ideal S18432x1 .f32) (r : Fin 18432) :
    cmpf .olt q (broadcast S18432x1 (Scalar.ofBits .f32 0x00800000#32)) (ix2 r 0) =
      BitVec.ofBool (decide (q (ix2 r 0) < Ideal.ofBits .f32 0x00800000#32)) := by
  pointwise

theorem pay7_at (r : Fin 18432) : k0_pay7 (F := Ideal) b0 b2 b1 b3 b4 b5 (ix2 r 0) =
    BitVec.ofBool (decide (qR b0 b1 b2 b3 b4 b5 r < Ideal.ofBits .f32 0x00800000#32)) := by
  have e := below_at (k0_pay6 (F := Ideal) b0 b2 b1 b3 b4 b5) r
  rw [pay6_row] at e
  exact e

theorem pay8_at (r : Fin 18432) : k0_pay8 (F := Ideal) b0 b2 b1 b3 b4 b5 (ix2 r 0) =
    Scalar.log (F := Ideal) (φ := .f32) (qR b0 b1 b2 b3 b4 b5 r) := by
  rw [← pay6_row]
  rfl

/-- The hidden state the body stores. -/
theorem out6_at (r : Fin 18432) (l : Fin 2560) : out0_6 (F := Ideal) b0 b1 b2 b3 b4 b5 (ix2 r l) = hR b0 b1 b2 b3 b4 r l := by
  frame_out
  exact pay4_at b0 b1 b2 b3 b4 r l

theorem pay2_at (v31 : FVec Ideal S18432x2560 .f32) (v38 : IVec S18432x1 1) (v39 : FVec Ideal S18432x1 .f32) (c : Ideal .f32) (r : Fin 18432) (l : Fin 2560) :
    k0_pay2 (F := Ideal) v31 v38 v39 c (ix2 r l) = Math.clip (v31 (ix2 r l) * Math.pow2 (0 -
      Scalar.select (v38 (ix2 r 0)) 0 (Ideal.liftRound Int.floor (Ideal.div (v39 (ix2 r 0)) (Scalar.log c)) + 1))) := by
  pointwise [k0_pay2, k0_pay1]
  rfl

theorem pay3_at (v38 : IVec S18432x1 1) (v39 : FVec Ideal S18432x1 .f32) (c : Ideal .f32) (a : Fin 144) (l : Fin 128) :
    k0_pay3 (F := Ideal) v38 v39 c (ix3 a 0 l) = Math.pow2 (
      Scalar.select (v38 (ix2 ⟨a.val * 128 + l.val, by omega⟩ 0)) 0
        (Ideal.liftRound Int.floor (Ideal.div (v39 (ix2 ⟨a.val * 128 + l.val, by omega⟩ 0)) (Scalar.log c)) + 1)) := by
  pointwise [k0_pay3, k0_pay1]
  rfl

/-- The codes the body stores. -/
theorem out7_at (r : Fin 18432) (l : Fin 2560) : out0_7 (F := Ideal) b0 b1 b2 b3 b4 b5 (ix2 r l) =
    Math.clip (hR b0 b1 b2 b3 b4 r l * Math.rr (hR b0 b1 b2 b3 b4 r) * b5 (ix2 0 l) * Math.pow2 (0 - Math.refExp (qR b0 b1 b2 b3 b4 b5 r))) := by
  frame_out
  rw [pay2_at, pay5_at]
  rw [k0_pay9, k0_pay10, View.ld_unit_zero (View.eq_zero_of_forall (by decide)), View.ld_unit_zero (View.eq_zero_of_forall (by decide)), View.ld_unit_zero (View.eq_zero_of_forall (by decide)), View.ld_unit_zero (View.eq_zero_of_forall (by decide)), View.ld_unit_zero (View.eq_zero_of_forall (by decide)), View.ld_unit_zero (View.eq_zero_of_forall (by decide))]
  rw [pay7_at, pay8_at]
  rfl

/-- The scales the body stores. -/
theorem out8_at (a : Fin 144) (l : Fin 128) : out0_8 (F := Ideal) b0 b1 b2 b3 b4 b5 (ix3 a 0 l) =
    Math.pow2 (Math.refExp (qR b0 b1 b2 b3 b4 b5 ⟨a.val * 128 + l.val, by omega⟩)) := by
  frame_out
  rw [pay3_at]
  rw [k0_pay9, k0_pay10, View.ld_unit_zero (View.eq_zero_of_forall (by decide)), View.ld_unit_zero (View.eq_zero_of_forall (by decide)), View.ld_unit_zero (View.eq_zero_of_forall (by decide)), View.ld_unit_zero (View.eq_zero_of_forall (by decide)), View.ld_unit_zero (View.eq_zero_of_forall (by decide)), View.ld_unit_zero (View.eq_zero_of_forall (by decide))]
  rw [pay7_at, pay8_at]
  rfl

end Cert.ReferenceIdeal.Body
-- ==== Proof.RefArrays.lean ====
module

public import proofs.«01_k».proof.Proof.Ref
public import Idealize.ShloMosaic.Lib.Claim
public import proofs.«01_k».proof.Proof.Spec

@[expose] public section

/-! The reference's three result arrays after the run. -/

set_option maxRecDepth 16384
noncomputable section
namespace Cert.ReferenceIdeal.Body
open Cert.ReferenceIdeal Cert.ReferenceIdeal.Gen Idealize.ShloMosaic Idealize.ShloMosaic.TcCoe Idealize.SL.Sem

variable (m : (ℓ : Loc nD τ sig) → Buf (Elt Ideal) ℓ) (c : Dev nD)

/-! The host's reshapes of the arguments, at an index. -/

theorem v0 (r : Fin 18432) (k : Fin 4096) : V m c main_v0 (ix2 r k) = m ((c : Thread nD τ).loc main_arg0) (ix3 (Math.seq r) (Math.tok r) k) := by
  entry_read
  pointwise
  rfl

theorem v1 (r : Fin 18432) : V m c main_v1 (ix2 r 0) = m ((c : Thread nD τ).loc main_arg1) (ix3 (Math.seq r) (Math.tok r) 0) := by
  entry_read
  pointwise
  rfl

theorem v2 (l : Fin 2560) : V m c main_v2 (ix2 0 l) = m ((c : Thread nD τ).loc main_arg3) (ix1 l) := by
  entry_read
  pointwise

theorem v3 (r : Fin 18432) (l : Fin 2560) : V m c main_v3 (ix2 r l) = m ((c : Thread nD τ).loc main_arg4) (ix3 (Math.seq r) (Math.tok r) l) := by
  entry_read
  pointwise
  rfl

theorem v4 (l : Fin 2560) : V m c main_v4 (ix2 0 l) = m ((c : Thread nD τ).loc main_arg5) (ix1 l) := by
  entry_read
  pointwise

/-! The one point's blocks are the whole arrays. -/

theorem i0 : ∀ t : Fin cfg0.N, win0_0.index t = ![0, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![0, 0] := (by decide +kernel : ∀ t : Fin grid0.N, _)
theorem i8 : ∀ t : Fin cfg0.N, win0_8.index t = ![0, 0, 0] := (by decide +kernel : ∀ t : Fin grid0.N, _)

theorem blk0 (t : Fin cfg0.N) (r : Fin 18432) (k : Fin 4096) : iblk m c 0 t (ix2 r k) = m ((c : Thread nD τ).loc main_arg0) (ix3 (Math.seq r) (Math.tok r) k) := by
  refine Eq.trans ?_ (v0 m c r k)
  blk_ext [iblk, i0]

theorem blk1 (t : Fin cfg0.N) (r : Fin 18432) : iblk m c 1 t (ix2 r 0) = m ((c : Thread nD τ).loc main_arg1) (ix3 (Math.seq r) (Math.tok r) 0) := by
  refine Eq.trans ?_ (v1 m c r)
  blk_ext [iblk, i1]

theorem blk2 (t : Fin cfg0.N) (k : Fin 4096) (l : Fin 2560) : iblk m c 2 t (ix2 k l) = m ((c : Thread nD τ).loc main_arg2) (ix2 k l) := by
  refine Eq.trans ?_ (congrFun (V_main_arg2 m c) (ix2 k l))
  blk_ext [iblk, i2]

theorem blk3 (t : Fin cfg0.N) (l : Fin 2560) : iblk m c 3 t (ix2 0 l) = m ((c : Thread nD τ).loc main_arg3) (ix1 l) := by
  refine Eq.trans ?_ (v2 m c l)
  blk_ext [iblk, i3]

theorem blk4 (t : Fin cfg0.N) (r : Fin 18432) (l : Fin 2560) : iblk m c 4 t (ix2 r l) = m ((c : Thread nD τ).loc main_arg4) (ix3 (Math.seq r) (Math.tok r) l) := by
  refine Eq.trans ?_ (v3 m c r l)
  blk_ext [iblk, i4]

theorem blk5 (t : Fin cfg0.N) (l : Fin 2560) : iblk m c 5 t (ix2 0 l) = m ((c : Thread nD τ).loc main_arg5) (ix1 l) := by
  refine Eq.trans ?_ (v4 m c l)
  blk_ext [iblk, i5]

/-! The results, from the argument arrays. -/

/-- The hidden state of the run's arguments. -/
def hidR (r : Fin 18432) (l : Fin 2560) : EReal :=
  Math.hid (m ((c : Thread nD τ).loc main_arg0)) (m ((c : Thread nD τ).loc main_arg1)) (m ((c : Thread nD τ).loc main_arg2))
    (m ((c : Thread nD τ).loc main_arg3)) (m ((c : Thread nD τ).loc main_arg4)) r l

/-- The codes of the run's arguments. -/
def codeR (r : Fin 18432) (l : Fin 2560) : EReal :=
  Math.code (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r l

/-- The scales of the run's arguments. -/
def scaleR (r : Fin 18432) : EReal :=
  Math.scale (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r

theorem hR_blk (t : Fin cfg0.N) (r : Fin 18432) (l : Fin 2560) :
    hR (iblk m c 0 t) (iblk m c 1 t) (iblk m c 2 t) (iblk m c 3 t) (iblk m c 4 t) r l = hidR m c r l := by
  unfold hidR Math.hid
  rw [← blk4 m c t r l, ← blk1 m c t r, ← blk3 m c t l]
  simp only [← blk0 m c t r, ← blk2 m c t]
  rfl

theorem qR_blk (t : Fin cfg0.N) (r : Fin 18432) :
    qR (iblk m c 0 t) (iblk m c 1 t) (iblk m c 2 t) (iblk m c 3 t) (iblk m c 4 t) (iblk m c 5 t) r =
      Math.amax (hidR m c r) (fun l => m ((c : Thread nD τ).loc main_arg5) (ix1 l)) * Ideal.ofBits .f32 0x3B124925#32 := by
  rw [qR, show hR (iblk m c 0 t) (iblk m c 1 t) (iblk m c 2 t) (iblk m c 3 t) (iblk m c 4 t) r = hidR m c r from funext fun l => hR_blk m c t r l]
  simp only [blk5]

theorem out6_blk (t : Fin cfg0.N) (r : Fin 18432) (l : Fin 2560) :
    out0_6 (F := Ideal) (iblk m c 0 t) (iblk m c 1 t) (iblk m c 2 t) (iblk m c 3 t) (iblk m c 4 t) (iblk m c 5 t) (ix2 r l) = hidR m c r l :=
  (out6_at _ _ _ _ _ _ r l).trans (hR_blk m c t r l)

theorem out7_blk (t : Fin cfg0.N) (r : Fin 18432) (l : Fin 2560) :
    out0_7 (F := Ideal) (iblk m c 0 t) (iblk m c 1 t) (iblk m c 2 t) (iblk m c 3 t) (iblk m c 4 t) (iblk m c 5 t) (ix2 r l) = codeR m c r l := by
  rw [out7_at, qR_blk, show hR (iblk m c 0 t) (iblk m c 1 t) (iblk m c 2 t) (iblk m c 3 t) (iblk m c 4 t) r = hidR m c r from funext fun l => hR_blk m c t r l, blk5]
  rfl

theorem out8_blk (t : Fin cfg0.N) (a : Fin 144) (l : Fin 128) :
    out0_8 (F := Ideal) (iblk m c 0 t) (iblk m c 1 t) (iblk m c 2 t) (iblk m c 3 t) (iblk m c 4 t) (iblk m c 5 t) (ix3 a 0 l) = scaleR m c ⟨a.val * 128 + l.val, by omega⟩ := by
  rw [out8_at, qR_blk]
  rfl

theorem emb6 (t : Fin cfg0.N) (r : Fin 18432) (l : Fin 2560) : (win0_6.blk t).view.emb (ix2 r l : S18432x2560.Idx) = (ix2 r l : S18432x2560.Idx) := by
  blk_ext [i6]

theorem emb7 (t : Fin cfg0.N) (r : Fin 18432) (l : Fin 2560) : (win0_7.blk t).view.emb (ix2 r l : S18432x2560.Idx) = (ix2 r l : S18432x2560.Idx) := by
  blk_ext [i7]

theorem emb8 (t : Fin cfg0.N) (a : Fin 144) (l : Fin 128) : (win0_8.blk t).view.emb (ix3 a 0 l : S144x1x128.Idx) = (ix3 a 0 l : S144x1x128.Idx) := by
  blk_ext [i8]

/-- Any index of a two-axis array is a pair. -/
theorem pair (y : S18432x2560.Idx) : ∃ r l, y = ix2 r l := ⟨y 0, y 1, by idx_ext⟩

/-- Any index of the array of scales is a triple with a zero. -/
theorem triple (y : S144x1x128.Idx) : ∃ a l, y = ix3 a 0 l := by
  idx_vars y
  exact ⟨_, _, by idx_ext⟩

/-- The row a scale belongs to. -/
def srow (a : Fin 144) (l : Fin 128) : Fin 18432 := ⟨a.val * 128 + l.val, by omega⟩

/-- The first result: the hidden state. -/
theorem arr6 : (dats m 0 c).arrAt 6 cfg0.N = fun i : S18432x2560.Idx => hidR m c (i 0) (i 1) := by
  refine (dats m 0 c).arrAt_eq_of_covers 6 _ (by decide +kernel) fun t hf y => ?_
  blk_simp
  rw [after0_6]
  obtain ⟨r, l, rfl⟩ := pair y
  exact (out6_blk m c t r l).trans (congrArg (fun i : S18432x2560.Idx => hidR m c (i 0) (i 1)) (emb6 t r l).symm)

/-- The second result: the codes. -/
theorem arr7 : (dats m 0 c).arrAt 7 cfg0.N = fun i : S18432x2560.Idx => codeR m c (i 0) (i 1) := by
  generalize hG : (fun i : S18432x2560.Idx => codeR m c (i 0) (i 1)) = G
  refine (dats m 0 c).arrAt_eq_of_covers 7 _ (by decide +kernel) fun t hf y => ?_
  blk_simp
  rw [after0_7]
  obtain ⟨r, l, rfl⟩ := pair y
  refine Eq.trans ?_ (congrArg G (emb7 t r l).symm)
  subst hG
  exact out7_blk m c t r l

/-- The third result: the scales. -/
theorem arr8 : (dats m 0 c).arrAt 8 cfg0.N = fun i : S144x1x128.Idx => scaleR m c (srow (i 0) (i 2)) := by
  generalize hG : (fun i : S144x1x128.Idx => scaleR m c (srow (i 0) (i 2))) = G
  refine (dats m 0 c).arrAt_eq_of_covers 8 _ (by decide +kernel) fun t hf y => ?_
  blk_simp
  rw [after0_8]
  obtain ⟨a, l, rfl⟩ := triple y
  refine Eq.trans ?_ (congrArg G (emb8 t a l).symm)
  subst hG
  exact out8_blk m c t a l

end Cert.ReferenceIdeal.Body
-- ==== Proof.Pre.lean ====
module

public import proofs.«01_k».proof.Pre_gamma_is_f32
public import proofs.«01_k».proof.Proof.Row
public import Idealize.ShloMosaic.Lib.ReduceAll
public import Idealize.ShloMosaic.PureOps.Ideal

@[expose] public section

/-! What the precondition says: no weight's magnitude passes the largest float. -/

set_option maxRecDepth 16384
noncomputable section
namespace Cert.Pre_gamma_is_f32.Gen
open Cert.Pre_gamma_is_f32 Idealize.ShloMosaic

theorem facts : Cert.Pre_gamma_is_f32.Facts where
  bcast_S_S2560 := by decide
  reducesTo_S2560_S_d0 := by decide
  h_S_ := by decide

/-- The precondition, at a column. -/
theorem weights (x0 x1 x2 x3 x4) (g : FVec Ideal S2560 .f32) (j : S_.Idx)
    (h : (letI := facts; fn (F := Ideal) x0 x1 x2 x3 x4 g j) = 1#1) (l : Fin 2560) :
    Math.mag (g (ix1 l)) ≤ Ideal.ofBits .f32 0x7F7FFFFF#32 := by
  dsimp only [fn] at h
  have e := Host.reduce_andi_all _ _ _ _ j h (ix1 l)
  have e' : BitVec.ofBool (decide (Math.mag (g (ix1 l)) ≤ Ideal.ofBits .f32 0x7F7FFFFF#32)) = 1#1 := e
  by_contra hn
  rw [decide_eq_false hn] at e'
  exact absurd e' (by decide)

end Cert.Pre_gamma_is_f32.Gen
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.KerArrays
public import proofs.«01_k».proof.Proof.RefArrays
public import proofs.«01_k».proof.Proof.Pre
public import Idealize.ShloMosaic.Adequacy
public import Idealize.ShloMosaic.Init

@[expose] public section

noncomputable section

namespace Cert.Proof

open Idealize.ShloMosaic Idealize.SL.Sem

/-- The idealised kernel and the idealised reference leave the same three arrays. -/
theorem algebraic : Cert.algebraic_KernelIdeal_ReferenceIdeal_pre_gamma_is_f32 (hKernelIdeal := Cert.KernelIdeal.Gen.facts)
    (hReferenceIdeal := Cert.ReferenceIdeal.Gen.facts) (hPre_gamma_is_f32 := Cert.Pre_gamma_is_f32.Gen.facts) := by
  intro m g m' g' hpre hagree
  have hw : ∀ c : Dev Cert.KernelIdeal.nD, Cert.KernelIdeal.Body.Fin32 m c := fun c l =>
    Cert.Pre_gamma_is_f32.Gen.weights _ _ _ _ _ _ (fun a => a.elim0) (congrFun (hpre c) _) l
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    Cert.KernelIdeal.Value.run_blocks m g,
    (θ_run _ _ _).mono (fun r h c => ?_) (Cert.ReferenceIdeal.Value.run_blocks m' g')⟩
  obtain ⟨h0, h1, h2, hr⟩ := h c
  obtain ⟨a0, a1, a2, a3, a4, a5⟩ := hagree c
  have e6 : ∀ r l, Cert.ReferenceIdeal.Body.hidR m' c r l = Cert.KernelIdeal.Body.hidK m c r l := by
    intro r l; unfold Cert.ReferenceIdeal.Body.hidR Cert.KernelIdeal.Body.hidK; rw [a0, a1, a2, a3, a4]
  have e7 : ∀ r l, Cert.ReferenceIdeal.Body.codeR m' c r l = Cert.KernelIdeal.Body.codeK m c r l := by
    intro r l; unfold Cert.ReferenceIdeal.Body.codeR Cert.KernelIdeal.Body.codeK; rw [a0, a1, a2, a3, a4, a5]
  have e8 : ∀ r, Cert.ReferenceIdeal.Body.scaleR m' c r = Cert.KernelIdeal.Body.scaleK m c r := by
    intro r; unfold Cert.ReferenceIdeal.Body.scaleR Cert.KernelIdeal.Body.scaleK; rw [a0, a1, a2, a3, a4, a5]
  have k7 := Cert.KernelIdeal.Body.arr7 m c (hw c)
  have k8 := Cert.KernelIdeal.Body.arr8 m c (hw c)
  exact ⟨h0.trans ((Cert.ReferenceIdeal.Body.arr6 m' c).trans ((funext fun _ => e6 _ _).trans (Cert.KernelIdeal.Body.arr6 m c).symm)),
    h1.trans ((Cert.ReferenceIdeal.Body.arr7 m' c).trans ((funext fun _ => e7 _ _).trans k7.symm)),
    h2.trans ((Cert.ReferenceIdeal.Body.arr8 m' c).trans ((funext fun _ => e8 _).trans k8.symm)), hr⟩

/-- Every program ends without fault and keeps its arguments, the named constant is `1 / 2560`, and the two ideal programs agree. -/
theorem claim : Cert.Claim := ⟨Cert.Kernel.Gen.facts, Cert.KernelIdeal.Gen.facts, Cert.ReferenceIdeal.Gen.facts, Cert.Pre_gamma_is_f32.Gen.facts,
  fun m g _ => Cert.Kernel.Gen.frame m g, fun m g _ => Cert.KernelIdeal.Gen.frame m g, fun m g _ => Cert.KernelIdeal.Gen.frame m g,
  fun m g _ => Cert.ReferenceIdeal.Gen.frame m g, fun m g _ => Cert.ReferenceIdeal.Gen.frame m g,
  IdealRules.named_const.statement Cert.KernelIdeal.κ "inv_d_out" .f32 0x39CCCCCD#32 ((1 / 2560 : ℝ) : EReal) rfl, algebraic⟩

end Cert.Proof

end
